-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v6)) (v2 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_v7) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)) (v1 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_v13) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v8)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x8192x14336 : Shape := ⟨3, ![4, 8192, 14336]⟩
abbrev S16x192 : Shape := ⟨2, ![16, 192]⟩
abbrev S4x8192x4096 : Shape := ⟨3, ![4, 8192, 4096]⟩
abbrev S_ : Shape := ⟨0, ![]⟩

class Facts : Prop where
  slices_S4x8192x14336_S4x8192x4096_0_0_4096 : S4x8192x14336.Slices ![0, 0, 4096] S4x8192x4096
  bcast_S_S4x8192x4096 : S_.BroadcastsInDim S4x8192x4096 (![] : Fin 0 → Fin S4x8192x4096.rank)
  bcast_S_S16x192 : S_.BroadcastsInDim S16x192 (![] : Fin 0 → Fin S16x192.rank)

variable [Facts]

def fn {F : FTy → Type} [FloatOps F] (main_arg0 : FVec F S4x8192x14336 .f32) (main_arg1 : FVec F S16x192 .f32) : IVec S4x8192x4096 1 × IVec S16x192 1 :=
  let main_v0 : FVec F S4x8192x4096 .f32 := (extractStridedSlice S4x8192x4096 ![0, 0, 4096] · slices_S4x8192x14336_S4x8192x4096_0_0_4096) main_arg0
  let main_v1 : FVec F S4x8192x4096 .f32 := Host.absf main_v0
  let main_cst : FVec F S_ .f32 := constant S_ .f32 0x7F800000#32
  let main_v2 : FVec F S4x8192x4096 .f32 := broadcastInDim S4x8192x4096 ![] bcast_S_S4x8192x4096 main_cst
  let main_v3 : IVec S4x8192x4096 1 := cmpf .olt main_v1 main_v2
  let main_v4 : FVec F S16x192 .f32 := Host.absf main_arg1
  let main_cst_0 : FVec F S_ .f32 := constant S_ .f32 0x7F800000#32
  let main_v5 : FVec F S16x192 .f32 := broadcastInDim S16x192 ![] bcast_S_S16x192 main_cst_0
  let main_v6 : IVec S16x192 1 := cmpf .olt main_v4 main_v5
  (main_v3, main_v6)
-- ==== Kernel.lean ====
abbrev S4x8192x14336 : Shape := ⟨3, ![4, 8192, 14336]⟩
abbrev S16x192 : Shape := ⟨2, ![16, 192]⟩
abbrev S4x8192x2048 : Shape := ⟨3, ![4, 8192, 2048]⟩
abbrev S1x512x512 : Shape := ⟨3, ![1, 512, 512]⟩
abbrev S4x128x640 : Shape := ⟨3, ![4, 128, 640]⟩
abbrev S1024x512 : Shape := ⟨2, ![1024, 512]⟩
abbrev S128x640 : Shape := ⟨2, ![128, 640]⟩
abbrev S1x1 : Shape := ⟨2, ![1, 1]⟩
abbrev S1x128x640 : Shape := ⟨3, ![1, 128, 640]⟩
abbrev S512x512 : Shape := ⟨2, ![512, 512]⟩
abbrev S1x128x128 : Shape := ⟨3, ![1, 128, 128]⟩
abbrev S128x128 : Shape := ⟨2, ![128, 128]⟩
abbrev S640x128 : Shape := ⟨2, ![640, 128]⟩
abbrev S128 : Shape := ⟨1, ![128]⟩
abbrev S128x1 : Shape := ⟨2, ![128, 1]⟩

abbrev nBuf : Space → Nat
  | .hbm => 3
  | .vmem => 13
  | .smem => 1
  | _ => 0

abbrev bufTy : (tb : Table) → Fin (tcTables nBuf tb) → BufTy
  | .hbm, ⟨0, _⟩ => ⟨S4x8192x14336, .f32⟩
  | .hbm, ⟨1, _⟩ => ⟨S16x192, .f32⟩
  | .hbm, ⟨2, _⟩ => ⟨S4x8192x2048, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S4x128x640, .f32⟩
  | .local _ .vmem, ⟨11, _⟩ => ⟨S1024x512, .bf16⟩
  | .local _ .vmem, ⟨12, _⟩ => ⟨S1024x512, .bf16⟩
  | .local _ .smem, ⟨0, _⟩ => ⟨S16x192, .f32⟩
  | _, _ => ⟨S4x8192x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 16], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_436 : BitVec 32 := 0#32
  let c192_i32 : BitVec 32 := 192#32
  let v717 : BitVec 32 := Scalar.addi c0_i32_436 c192_i32
  let c1_i32_437 : BitVec 32 := 1#32
  ⟨c0_i32_436, v717, c1_i32_437⟩
def k0_off1 (i : grid0.Coords) (k0_t1 : Fin k0_t1_loop.trips) : Fin 2 → Nat :=
  let arg0 : BitVec 32 := BitVec.ofNat 32 (i 0).val
  let c4_i32 : BitVec 32 := 4#32
  let v705 : BitVec 32 := Scalar.muli arg0 c4_i32
  let c0_i32_432 : BitVec 32 := 0#32
  let v706 : BitVec 32 := Scalar.addi v705 c0_i32_432
  let v783 : Index := Scalar.indexCast v706
  let c0_i32_436 : BitVec 32 := 0#32
  let c1_i32_437 : BitVec 32 := 1#32
  let arg12 : BitVec 32 := Scf.iv c0_i32_436 c1_i32_437 k0_t1
  let v784 : Index := Scalar.indexCast arg12
  ![v783.toNat, v784.toNat]
@[reducible] def k0_t2_loop : Scf.Loop 32 :=
  let c0_i32_450 : BitVec 32 := 0#32
  let c192_i32_451 : BitVec 32 := 192#32
  let v736 : BitVec 32 := Scalar.addi c0_i32_450 c192_i32_451
  let c1_i32_452 : BitVec 32 := 1#32
  ⟨c0_i32_450, v736, c1_i32_452⟩
def k0_off2 (i : grid0.Coords) (k0_t2 : Fin k0_t2_loop.trips) : Fin 2 → Nat :=
  let arg0 : BitVec 32 := BitVec.ofNat 32 (i 0).val
  let c4_i32_443 : BitVec 32 := 4#32
  let v724 : BitVec 32 := Scalar.muli arg0 c4_i32_443
  let c1_i32_444 : BitVec 32 := 1#32
  let v725 : BitVec 32 := Scalar.addi v724 c1_i32_444
  let v783 : Index := Scalar.indexCast v725
  let c0_i32_450 : BitVec 32 := 0#32
  let c1_i32_452 : BitVec 32 := 1#32
  let arg12 : BitVec 32 := Scf.iv c0_i32_450 c1_i32_452 k0_t2
  let v784 : Index := Scalar.indexCast arg12
  ![v783.toNat, v784.toNat]
@[reducible] def k0_t3_loop : Scf.Loop 32 :=
  let c0_i32_464 : BitVec 32 := 0#32
  let c192_i32_465 : BitVec 32 := 192#32
  let v755 : BitVec 32 := Scalar.addi c0_i32_464 c192_i32_465
  let c1_i32_466 : BitVec 32 := 1#32
  ⟨c0_i32_464, v755, c1_i32_466⟩
def k0_off3 (i : grid0.Coords) (k0_t3 : Fin k0_t3_loop.trips) : Fin 2 → Nat :=
  let arg0 : BitVec 32 := BitVec.ofNat 32 (i 0).val
  let c4_i32_458 : BitVec 32 := 4#32
  let v743 : BitVec 32 := Scalar.muli arg0 c4_i32_458
  let c2_i32 : BitVec 32 := 2#32
  let v744 : BitVec 32 := Scalar.addi v743 c2_i32
  let v783 : Index := Scalar.indexCast v744
  let c0_i32_464 : BitVec 32 := 0#32
  let c1_i32_466 : BitVec 32 := 1#32
  let arg12 : BitVec 32 := Scf.iv c0_i32_464 c1_i32_466 k0_t3
  let v784 : Index := Scalar.indexCast arg12
  ![v783.toNat, v784.toNat]
@[reducible] def k0_t4_loop : Scf.Loop 32 :=
  let c0_i32_478 : BitVec 32 := 0#32
  let c192_i32_479 : BitVec 32 := 192#32
  let v774 : BitVec 32 := Scalar.addi c0_i32_478 c192_i32_479
  let c1_i32_480 : BitVec 32 := 1#32
  ⟨c0_i32_478, v774, c1_i32_480⟩
def k0_off4 (i : grid0.Coords) (k0_t4 : Fin k0_t4_loop.trips) : Fin 2 → Nat :=
  let arg0 : BitVec 32 := BitVec.ofNat 32 (i 0).val
  let c4_i32_472 : BitVec 32 := 4#32
  let v762 : BitVec 32 := Scalar.muli arg0 c4_i32_472
  let c3_i32 : BitVec 32 := 3#32
  let v763 : BitVec 32 := Scalar.addi v762 c3_i32
  let v783 : Index := Scalar.indexCast v763
  let c0_i32_478 : BitVec 32 := 0#32
  let c1_i32_480 : BitVec 32 := 1#32
  let arg12 : BitVec 32 := Scf.iv c0_i32_478 c1_i32_480 k0_t4
  let v784 : Index := Scalar.indexCast arg12
  ![v783.toNat, v784.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg1.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 1 → Memref sig .tc .smem S16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x14336 : Shape := ⟨3, ![4, 8192, 14336]⟩
abbrev S16x192 : Shape := ⟨2, ![16, 192]⟩
abbrev S4x8192x2048 : Shape := ⟨3, ![4, 8192, 2048]⟩
abbrev S8192 : Shape := ⟨1, ![8192]⟩
abbrev S4x8192x16x128 : Shape := ⟨4, ![4, 8192, 16, 128]⟩
abbrev S4x16x8192x8192 : Shape := ⟨4, ![4, 16, 8192, 8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S16x8192x8192 : Shape := ⟨3, ![16, 8192, 8192]⟩
abbrev S1x16x8192x8192 : Shape := ⟨4, ![1, 16, 8192, 8192]⟩
abbrev S4x16x8192 : Shape := ⟨3, ![4, 16, 8192]⟩
abbrev S4x16x8192x1 : Shape := ⟨4, ![4, 16, 8192, 1]⟩
abbrev S4x16x128x8192 : Shape := ⟨4, ![4, 16, 128, 8192]⟩

abbrev nBuf : Space → Nat
  | .hbm => 128
  | .vmem => 0
  | .smem => 0
  | _ => 0

abbrev bufTy : (tb : Table) → Fin (tcTables nBuf tb) → BufTy
  | .hbm, ⟨0, _⟩ => ⟨S4x8192x14336, .f32⟩
  | .hbm, ⟨1, _⟩ => ⟨S16x192, .f32⟩
  | .hbm, ⟨2, _⟩ => ⟨S4x8192x2048, .f32⟩
  | .hbm, ⟨3, _⟩ => ⟨S4x8192x2048, .f32⟩
  | .hbm, ⟨4, _⟩ => ⟨S4x8192x2048, .f32⟩
  | .hbm, ⟨5, _⟩ => ⟨S4x8192x2048, .f32⟩
  | .hbm, ⟨6, _⟩ => ⟨S8192, .i32⟩
  | .hbm, ⟨7, _⟩ => ⟨S4x8192x16x128, .f32⟩
  | .hbm, ⟨8, _⟩ => ⟨S4x8192x16x128, .f32⟩
  | .hbm, ⟨9, _⟩ => ⟨S4x8192x16x128, .f32⟩
  | .hbm, ⟨10, _⟩ => ⟨S4x16x8192x8192, .f32⟩
  | .hbm, ⟨11, _⟩ => ⟨S_, .f32⟩
  | .hbm, ⟨12, _⟩ => ⟨S4x16x8192x8192, .f32⟩
  | .hbm, ⟨13, _⟩ => ⟨S4x16x8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i1⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S8192x8192, .i32⟩
  | .hbm, ⟨37, _⟩ => ⟨S8192x8192x1, .i32⟩
  | .hbm, ⟨38, _⟩ => ⟨S16x8192x8192, .f32⟩
  | .hbm, ⟨39, _⟩ => ⟨S1x16x8192x8192, .f32⟩
  | .hbm, ⟨40, _⟩ => ⟨S4x16x8192x8192, .f32⟩
  | .hbm, ⟨41, _⟩ => ⟨S4x16x8192x8192, .f32⟩
  | .hbm, ⟨42, _⟩ => ⟨S8192x1, .i32⟩
  | .hbm, ⟨43, _⟩ => ⟨S_, .i32⟩
  | .hbm, ⟨44, _⟩ => ⟨S_, .i32⟩
  | .hbm, ⟨45, _⟩ => ⟨S8192x1, .i32⟩
  | .hbm, ⟨46, _⟩ => ⟨S8192x1, .i32⟩
  | .hbm, ⟨47, _⟩ => ⟨S8192x1, .i32⟩
  | .hbm, ⟨48, _⟩ => ⟨S_, .i32⟩
  | .hbm, ⟨49, _⟩ => ⟨S8192x1, .i32⟩
  | .hbm, ⟨50, _⟩ => ⟨S8192x1, .i1⟩
  | .hbm, ⟨51, _⟩ => ⟨S8192x1, .i32⟩
  | .hbm, ⟨52, _⟩ => ⟨S8192x1, .i32⟩
  | .hbm, ⟨53, _⟩ => ⟨S_, .i32⟩
  | .hbm, ⟨54, _⟩ => ⟨S8192x1, .i32⟩
  | .hbm, ⟨55, _⟩ => ⟨S8192x1, .i1⟩
  | .hbm, ⟨56, _⟩ => ⟨S8192x1, .i1⟩
  | .hbm, ⟨57, _⟩ => ⟨S_, .i32⟩
  | .hbm, ⟨58, _⟩ => ⟨S8192x1, .i32⟩
  | .hbm, ⟨59, _⟩ => ⟨S8192x1, .i32⟩
  | .hbm, ⟨60, _⟩ => ⟨S8192x1, .i32⟩
  | .hbm, ⟨61, _⟩ => ⟨S1x8192, .i32⟩
  | .hbm, ⟨62, _⟩ => ⟨S_, .i32⟩
  | .hbm, ⟨63, _⟩ => ⟨S_, .i32⟩
  | .hbm, ⟨64, _⟩ => ⟨S1x8192, .i32⟩
  | .hbm, ⟨65, _⟩ => ⟨S1x8192, .i32⟩
  | .hbm, ⟨66, _⟩ => ⟨S1x8192, .i32⟩
  | .hbm, ⟨67, _⟩ => ⟨S_, .i32⟩
  | .hbm, ⟨68, _⟩ => ⟨S1x8192, .i32⟩
  | .hbm, ⟨69, _⟩ => ⟨S1x8192, .i1⟩
  | .hbm, ⟨70, _⟩ => ⟨S1x8192, .i32⟩
  | .hbm, ⟨71, _⟩ => ⟨S1x8192, .i32⟩
  | .hbm, ⟨72, _⟩ => ⟨S_, .i32⟩
  | .hbm, ⟨73, _⟩ => ⟨S1x8192, .i32⟩
  | .hbm, ⟨74, _⟩ => ⟨S1x8192, .i1⟩
  | .hbm, ⟨75, _⟩ => ⟨S1x8192, .i1⟩
  | .hbm, ⟨76, _⟩ => ⟨S_, .i32⟩
  | .hbm, ⟨77, _⟩ => ⟨S1x8192, .i32⟩
  | .hbm, ⟨78, _⟩ => ⟨S1x8192, .i32⟩
  | .hbm, ⟨79, _⟩ => ⟨S1x8192, .i32⟩
  | .hbm, ⟨80, _⟩ => ⟨S1x8192, .i32⟩
  | .hbm, ⟨81, _⟩ => ⟨S_, .i32⟩
  | .hbm, ⟨82, _⟩ => ⟨S1x8192, .i32⟩
  | .hbm, ⟨83, _⟩ => ⟨S1x8192, .i1⟩
  | .hbm, ⟨84, _⟩ => ⟨S8192x8192, .i32⟩
  | .hbm, ⟨85, _⟩ => ⟨S8192x8192, .i32⟩
  | .hbm, ⟨86, _⟩ => ⟨S8192x8192, .i1⟩
  | .hbm, ⟨87, _⟩ => ⟨S8192x8192, .i1⟩
  | .hbm, ⟨88, _⟩ => ⟨S8192x8192, .i1⟩
  | .hbm, ⟨89, _⟩ => ⟨S_, .i32⟩
  | .hbm, ⟨90, _⟩ => ⟨S8192x1, .i32⟩
  | .hbm, ⟨91, _⟩ => ⟨S8192x1, .i32⟩
  | .hbm, ⟨92, _⟩ => ⟨S8192x8192, .i32⟩
  | .hbm, ⟨93, _⟩ => ⟨S8192x8192, .i32⟩
  | .hbm, ⟨94, _⟩ => ⟨S8192x8192, .i1⟩
  | .hbm, ⟨95, _⟩ => ⟨S8192x8192, .i1⟩
  | .hbm, ⟨96, _⟩ => ⟨S_, .f32⟩
  | .hbm, ⟨97, _⟩ => ⟨S_, .f32⟩
  | .hbm, ⟨98, _⟩ => ⟨S4x16x8192x8192, .i1⟩
  | .hbm, ⟨99, _⟩ => ⟨S4x16x8192x8192, .f32⟩
  | .hbm, ⟨100, _⟩ => ⟨S4x16x8192x8192, .f32⟩
  | .hbm, ⟨101, _⟩ => ⟨S_, .f32⟩
  | .hbm, ⟨102, _⟩ => ⟨S4x16x8192, .f32⟩
  | .hbm, ⟨103, _⟩ => ⟨S_, .f32⟩
  | .hbm, ⟨104, _⟩ => ⟨S4x16x8192, .f32⟩
  | .hbm, ⟨105, _⟩ => ⟨S4x16x8192, .f32⟩
  | .hbm, ⟨106, _⟩ => ⟨S4x16x8192x1, .f32⟩
  | .hbm, ⟨107, _⟩ => ⟨S4x16x8192x8192, .f32⟩
  | .hbm, ⟨108, _⟩ => ⟨S4x16x8192x8192, .f32⟩
  | .hbm, ⟨109, _⟩ => ⟨S4x16x8192x8192, .f32⟩
  | .hbm, ⟨110, _⟩ => ⟨S_, .f32⟩
  | .hbm, ⟨111, _⟩ => ⟨S4x16x8192, .f32⟩
  | .hbm, ⟨112, _⟩ => ⟨S4x16x8192x1, .f32⟩
  | .hbm, ⟨113, _⟩ => ⟨S4x16x8192x8192, .f32⟩
  | .hbm, ⟨114, _⟩ => ⟨S4x16x8192x8192, .f32⟩
  | .hbm, ⟨115, _⟩ => ⟨S4x16x128x8192, .f32⟩
  | .hbm, ⟨116, _⟩ => ⟨S4x8192x16x128, .f32⟩
  | .hbm, ⟨117, _⟩ => ⟨S4x8192x2048, .f32⟩
  | .hbm, ⟨118, _⟩ => ⟨S4x8192x2048, .f32⟩
  | .hbm, ⟨119, _⟩ => ⟨S_, .f32⟩
  | .hbm, ⟨120, _⟩ => ⟨S4x8192x2048, .f32⟩
  | .hbm, ⟨121, _⟩ => ⟨S4x8192x2048, .f32⟩
  | .hbm, ⟨122, _⟩ => ⟨S_, .f32⟩
  | .hbm, ⟨123, _⟩ => ⟨S4x8192x2048, .f32⟩
  | .hbm, ⟨124, _⟩ => ⟨S4x8192x2048, .f32⟩
  | .hbm, ⟨125, _⟩ => ⟨S4x8192x2048, .f32⟩
  | .hbm, ⟨126, _⟩ => ⟨S4x8192x2048, .f32⟩
  | .hbm, ⟨127, _⟩ => ⟨S4x8192x2048, .bf16⟩
  | _, _ => ⟨S4x8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_c : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_0 : Ref sig .tc := ⟨.hbm, 76, rfl⟩
abbrev main_call2_v12 : Ref sig .tc := ⟨.hbm, 77, rfl⟩
abbrev main_call2_v13 : Ref sig .tc := ⟨.hbm, 78, rfl⟩
abbrev main_v32 : Ref sig .tc := ⟨.hbm, 79, rfl⟩
abbrev main_v33 : Ref sig .tc := ⟨.hbm, 80, rfl⟩
abbrev main_c_6 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_c_7 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_8 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_v47 : Ref sig .tc := ⟨.hbm, 100, rfl⟩
abbrev main_cst_9 : Ref sig .tc := ⟨.hbm, 101, rfl⟩
abbrev main_v48 : Ref sig .tc := ⟨.hbm, 102, rfl⟩
abbrev main_cst_10 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_11 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_12 : Ref sig .tc := ⟨.hbm, 119, rfl⟩
abbrev main_v63 : Ref sig .tc := ⟨.hbm, 120, rfl⟩
abbrev main_v64 : Ref sig .tc := ⟨.hbm, 121, rfl⟩
abbrev main_cst_13 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩

abbrev nD : Nat := 1
abbrev τ : Topo := Topo.v7x

variable {F : FTy → Type} [FloatOps F]
-- ==== Kernel2.lean ====
abbrev S4x8192x2048 : Shape := ⟨3, ![4, 8192, 2048]⟩
abbrev S4x1x2048 : Shape := ⟨3, ![4, 1, 2048]⟩
abbrev S2048x14336 : Shape := ⟨2, ![2048, 14336]⟩
abbrev S4x8192x14336 : Shape := ⟨3, ![4, 8192, 14336]⟩
abbrev S1x1024x2048 : Shape := ⟨3, ![1, 1024, 2048]⟩
abbrev S1x1x2048 : Shape := ⟨3, ![1, 1, 2048]⟩
abbrev S2048x1024 : Shape := ⟨2, ![2048, 1024]⟩
abbrev S1x1024x1024 : Shape := ⟨3, ![1, 1024, 1024]⟩
abbrev S1024x2048 : Shape := ⟨2, ![1024, 2048]⟩
abbrev S1024 : Shape := ⟨1, ![1024]⟩
abbrev S1024x1 : Shape := ⟨2, ![1024, 1]⟩
abbrev S1x2048 : Shape := ⟨2, ![1, 2048]⟩
abbrev S1024x1024 : Shape := ⟨2, ![1024, 1024]⟩
abbrev S4x512x2048 : Shape := ⟨3, ![4, 512, 2048]⟩
abbrev S4x512x16x128 : Shape := ⟨4, ![4, 512, 16, 128]⟩
abbrev S1x4x512x16x128 : Shape := ⟨5, ![1, 4, 512, 16, 128]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S4x1x2048, .f32⟩
  | .hbm, ⟨2, _⟩ => ⟨S4x1x2048, .f32⟩
  | .hbm, ⟨3, _⟩ => ⟨S2048x14336, .f32⟩
  | .hbm, ⟨4, _⟩ => ⟨S2048x14336, .bf16⟩
  | .hbm, ⟨5, _⟩ => ⟨S4x8192x14336, .f32⟩
  | .hbm, ⟨6, _⟩ => ⟨S4x512x2048, .f32⟩
  | .hbm, ⟨7, _⟩ => ⟨S4x512x16x128, .f32⟩
  | .hbm, ⟨8, _⟩ => ⟨S4x512x2048, .f32⟩
  | .hbm, ⟨9, _⟩ => ⟨S4x512x16x128, .f32⟩
  | .hbm, ⟨10, _⟩ => ⟨S1x4x512x16x128, .f32⟩
  | .hbm, ⟨11, _⟩ => ⟨S1x4x512x16x128, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1024, .bf16⟩
  | .local _ .vmem, ⟨7, _⟩ => ⟨S2048x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 14], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S4x8192x2048 : Shape := ⟨3, ![4, 8192, 2048]⟩
abbrev S4x1x2048 : Shape := ⟨3, ![4, 1, 2048]⟩
abbrev S2048x14336 : Shape := ⟨2, ![2048, 14336]⟩
abbrev S_ : Shape := ⟨0, ![]⟩
abbrev S4x8192 : Shape := ⟨2, ![4, 8192]⟩
abbrev S4x8192x1 : Shape := ⟨3, ![4, 8192, 1]⟩
abbrev S4x8192x14336 : Shape := ⟨3, ![4, 8192, 14336]⟩
abbrev S4x8192x16x128 : Shape := ⟨4, ![4, 8192, 16, 128]⟩
abbrev S4x512x16x128 : Shape := ⟨4, ![4, 512, 16, 128]⟩
abbrev S1x4x512x16x128 : Shape := ⟨5, ![1, 4, 512, 16, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x1x2048, .f32⟩
  | .hbm, ⟨2, _⟩ => ⟨S4x1x2048, .f32⟩
  | .hbm, ⟨3, _⟩ => ⟨S2048x14336, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S4x8192x2048, .f32⟩
  | .hbm, ⟨11, _⟩ => ⟨S4x8192x2048, .f32⟩
  | .hbm, ⟨12, _⟩ => ⟨S4x8192x2048, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x2048, .f32⟩
  | .hbm, ⟨20, _⟩ => ⟨S4x8192x2048, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x2048, .f32⟩
  | .hbm, ⟨26, _⟩ => ⟨S4x8192x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S4x8192x2048, .f32⟩
  | .hbm, ⟨34, _⟩ => ⟨S4x8192x14336, .f32⟩
  | .hbm, ⟨35, _⟩ => ⟨S4x8192x2048, .f32⟩
  | .hbm, ⟨36, _⟩ => ⟨S4x8192x2048, .f32⟩
  | .hbm, ⟨37, _⟩ => ⟨S4x8192x16x128, .f32⟩
  | .hbm, ⟨38, _⟩ => ⟨S4x8192x16x128, .f32⟩
  | .hbm, ⟨39, _⟩ => ⟨S4x512x16x128, .f32⟩
  | .hbm, ⟨40, _⟩ => ⟨S1x4x512x16x128, .f32⟩
  | .hbm, ⟨41, _⟩ => ⟨S4x512x16x128, .f32⟩
  | .hbm, ⟨42, _⟩ => ⟨S1x4x512x16x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel3.lean ====
abbrev S4x8192x2048 : Shape := ⟨3, ![4, 8192, 2048]⟩
abbrev S2048x2048 : Shape := ⟨2, ![2048, 2048]⟩
abbrev S4x1x2048 : Shape := ⟨3, ![4, 1, 2048]⟩
abbrev S2048 : Shape := ⟨1, ![2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x2048, .f32⟩
  | .hbm, ⟨3, _⟩ => ⟨S2048x2048, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S2048, .f32⟩
  | .hbm, ⟨8, _⟩ => ⟨S2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S4x8192x2048, .f32⟩
  | .hbm, ⟨13, _⟩ => ⟨S4x8192x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .f32⟩
  | .local _ .vmem, ⟨5, _⟩ => ⟨S1x512x2048, .f32⟩
  | .local _ .vmem, ⟨6, _⟩ => ⟨S2048x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S1x2048, .f32⟩
  | .local _ .vmem, ⟨15, _⟩ => ⟨S1x512x2048, .f32⟩
  | .local _ .vmem, ⟨16, _⟩ => ⟨S1x512x2048, .f32⟩
  | .local _ .vmem, ⟨17, _⟩ => ⟨S1x512x2048, .bf16⟩
  | .local _ .vmem, ⟨18, _⟩ => ⟨S1x512x2048, .bf16⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x8192x2048 : Shape := ⟨3, ![4, 8192, 2048]⟩
abbrev S2048x2048 : Shape := ⟨2, ![2048, 2048]⟩
abbrev S4x1x2048 : Shape := ⟨3, ![4, 1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S4x8192x2048, .bf16⟩
  | .hbm, ⟨2, _⟩ => ⟨S4x8192x2048, .f32⟩
  | .hbm, ⟨3, _⟩ => ⟨S2048x2048, .f32⟩
  | .hbm, ⟨4, _⟩ => ⟨S4x1x2048, .f32⟩
  | .hbm, ⟨5, _⟩ => ⟨S4x1x2048, .f32⟩
  | .hbm, ⟨6, _⟩ => ⟨S4x1x2048, .f32⟩
  | .hbm, ⟨7, _⟩ => ⟨S2048, .f32⟩
  | .hbm, ⟨8, _⟩ => ⟨S2048, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S4x8192x2048, .f32⟩
  | .hbm, ⟨13, _⟩ => ⟨S_, .f32⟩
  | .hbm, ⟨14, _⟩ => ⟨S4x8192x2048, .f32⟩
  | .hbm, ⟨15, _⟩ => ⟨S4x8192x2048, .f32⟩
  | .hbm, ⟨16, _⟩ => ⟨S4x8192x2048, .f32⟩
  | .hbm, ⟨17, _⟩ => ⟨S4x8192x2048, .f32⟩
  | .hbm, ⟨18, _⟩ => ⟨S4x8192x2048, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x2048, .f32⟩
  | .hbm, ⟨26, _⟩ => ⟨S4x8192x2048, .f32⟩
  | .hbm, ⟨27, _⟩ => ⟨S4x8192x2048, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S_, .f32⟩
  | .hbm, ⟨32, _⟩ => ⟨S4x8192x1, .f32⟩
  | .hbm, ⟨33, _⟩ => ⟨S4x8192x1, .f32⟩
  | .hbm, ⟨34, _⟩ => ⟨S4x8192x2048, .f32⟩
  | .hbm, ⟨35, _⟩ => ⟨S4x8192x2048, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x2048, .f32⟩
  | .hbm, ⟨41, _⟩ => ⟨S4x8192x2048, .f32⟩
  | .hbm, ⟨42, _⟩ => ⟨S1x1x2048, .f32⟩
  | .hbm, ⟨43, _⟩ => ⟨S4x8192x2048, .f32⟩
  | .hbm, ⟨44, _⟩ => ⟨S4x8192x2048, .f32⟩
  | .hbm, ⟨45, _⟩ => ⟨S1x1x2048, .f32⟩
  | .hbm, ⟨46, _⟩ => ⟨S4x8192x2048, .f32⟩
  | .hbm, ⟨47, _⟩ => ⟨S4x8192x2048, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x2048, .f32⟩
  | .hbm, ⟨55, _⟩ => ⟨S4x8192x2048, .f32⟩
  | .hbm, ⟨56, _⟩ => ⟨S4x8192x2048, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x2048, .f32⟩
  | .hbm, ⟨64, _⟩ => ⟨S4x8192x2048, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S4x8192x1, .f32⟩
  | .hbm, ⟨69, _⟩ => ⟨S4x8192x2048, .f32⟩
  | .hbm, ⟨70, _⟩ => ⟨S4x8192x2048, .f32⟩
  | .hbm, ⟨71, _⟩ => ⟨S_, .f32⟩
  | .hbm, ⟨72, _⟩ => ⟨S4x1x2048, .f32⟩
  | .hbm, ⟨73, _⟩ => ⟨S4x1x2048, .f32⟩
  | .hbm, ⟨74, _⟩ => ⟨S4x8192x2048, .f32⟩
  | .hbm, ⟨75, _⟩ => ⟨S4x8192x2048, .f32⟩
  | .hbm, ⟨76, _⟩ => ⟨S4x8192x2048, .f32⟩
  | .hbm, ⟨77, _⟩ => ⟨S4x8192x2048, .f32⟩
  | .hbm, ⟨78, _⟩ => ⟨S4x8192x2048, .bf16⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Kernel4.lean ====
abbrev S8x32x2048 : Shape := ⟨3, ![8, 32, 2048]⟩
abbrev S8x1x2048 : Shape := ⟨3, ![8, 1, 2048]⟩
abbrev S2048x14336 : Shape := ⟨2, ![2048, 14336]⟩
abbrev S1x256x2048 : Shape := ⟨3, ![1, 256, 2048]⟩
abbrev S1x256x14336 : Shape := ⟨3, ![1, 256, 14336]⟩
abbrev S2048x1024 : Shape := ⟨2, ![2048, 1024]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S8x32x14336 : Shape := ⟨3, ![8, 32, 14336]⟩
abbrev S8x32x16x128 : Shape := ⟨4, ![8, 32, 16, 128]⟩
abbrev S1x8x32x16x128 : Shape := ⟨5, ![1, 8, 32, 16, 128]⟩

abbrev nBuf : Space → Nat
  | .hbm => 18
  | .vmem => 8
  | .smem => 0
  | _ => 0

abbrev bufTy : (tb : Table) → Fin (tcTables nBuf tb) → BufTy
  | .hbm, ⟨0, _⟩ => ⟨S8x32x2048, .f32⟩
  | .hbm, ⟨1, _⟩ => ⟨S8x1x2048, .f32⟩
  | .hbm, ⟨2, _⟩ => ⟨S8x1x2048, .f32⟩
  | .hbm, ⟨3, _⟩ => ⟨S2048x14336, .f32⟩
  | .hbm, ⟨4, _⟩ => ⟨S8x32x2048, .f32⟩
  | .hbm, ⟨5, _⟩ => ⟨S1x256x2048, .f32⟩
  | .hbm, ⟨6, _⟩ => ⟨S8x32x2048, .f32⟩
  | .hbm, ⟨7, _⟩ => ⟨S1x256x2048, .f32⟩
  | .hbm, ⟨8, _⟩ => ⟨S1x256x2048, .f32⟩
  | .hbm, ⟨9, _⟩ => ⟨S2048x14336, .bf16⟩
  | .hbm, ⟨10, _⟩ => ⟨S1x256x14336, .f32⟩
  | .hbm, ⟨11, _⟩ => ⟨S8x32x14336, .f32⟩
  | .hbm, ⟨12, _⟩ => ⟨S8x32x2048, .f32⟩
  | .hbm, ⟨13, _⟩ => ⟨S8x32x16x128, .f32⟩
  | .hbm, ⟨14, _⟩ => ⟨S8x32x2048, .f32⟩
  | .hbm, ⟨15, _⟩ => ⟨S8x32x16x128, .f32⟩
  | .hbm, ⟨16, _⟩ => ⟨S1x8x32x16x128, .f32⟩
  | .hbm, ⟨17, _⟩ => ⟨S1x8x32x16x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x256x1024, .f32⟩
  | .local _ .vmem, ⟨6, _⟩ => ⟨S1x256x1024, .f32⟩
  | .local _ .vmem, ⟨7, _⟩ => ⟨S256x2048, .bf16⟩
  | _, _ => ⟨S8x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![1, 1, 14], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S1x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S8x32x2048 : Shape := ⟨3, ![8, 32, 2048]⟩
abbrev S8x1x2048 : Shape := ⟨3, ![8, 1, 2048]⟩
abbrev S2048x14336 : Shape := ⟨2, ![2048, 14336]⟩
abbrev S_ : Shape := ⟨0, ![]⟩
abbrev S8x32 : Shape := ⟨2, ![8, 32]⟩
abbrev S8x32x1 : Shape := ⟨3, ![8, 32, 1]⟩
abbrev S8x32x14336 : Shape := ⟨3, ![8, 32, 14336]⟩
abbrev S8x32x16x128 : Shape := ⟨4, ![8, 32, 16, 128]⟩
abbrev S1x8x32x16x128 : Shape := ⟨5, ![1, 8, 32, 16, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x32x2048, .f32⟩
  | .hbm, ⟨1, _⟩ => ⟨S8x1x2048, .f32⟩
  | .hbm, ⟨2, _⟩ => ⟨S8x1x2048, .f32⟩
  | .hbm, ⟨3, _⟩ => ⟨S2048x14336, .f32⟩
  | .hbm, ⟨4, _⟩ => ⟨S_, .f32⟩
  | .hbm, ⟨5, _⟩ => ⟨S8x32, .f32⟩
  | .hbm, ⟨6, _⟩ => ⟨S8x32x1, .f32⟩
  | .hbm, ⟨7, _⟩ => ⟨S_, .f32⟩
  | .hbm, ⟨8, _⟩ => ⟨S8x32x1, .f32⟩
  | .hbm, ⟨9, _⟩ => ⟨S8x32x1, .f32⟩
  | .hbm, ⟨10, _⟩ => ⟨S8x32x2048, .f32⟩
  | .hbm, ⟨11, _⟩ => ⟨S8x32x2048, .f32⟩
  | .hbm, ⟨12, _⟩ => ⟨S8x32x2048, .f32⟩
  | .hbm, ⟨13, _⟩ => ⟨S_, .f32⟩
  | .hbm, ⟨14, _⟩ => ⟨S8x32, .f32⟩
  | .hbm, ⟨15, _⟩ => ⟨S8x32x1, .f32⟩
  | .hbm, ⟨16, _⟩ => ⟨S_, .f32⟩
  | .hbm, ⟨17, _⟩ => ⟨S8x32x1, .f32⟩
  | .hbm, ⟨18, _⟩ => ⟨S8x32x1, .f32⟩
  | .hbm, ⟨19, _⟩ => ⟨S8x32x2048, .f32⟩
  | .hbm, ⟨20, _⟩ => ⟨S8x32x2048, .f32⟩
  | .hbm, ⟨21, _⟩ => ⟨S_, .f32⟩
  | .hbm, ⟨22, _⟩ => ⟨S8x32x1, .f32⟩
  | .hbm, ⟨23, _⟩ => ⟨S8x32x1, .f32⟩
  | .hbm, ⟨24, _⟩ => ⟨S8x32x1, .f32⟩
  | .hbm, ⟨25, _⟩ => ⟨S8x32x2048, .f32⟩
  | .hbm, ⟨26, _⟩ => ⟨S8x32x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x32x2048, .f32⟩
  | .hbm, ⟨31, _⟩ => ⟨S8x32x2048, .f32⟩
  | .hbm, ⟨32, _⟩ => ⟨S8x32x2048, .f32⟩
  | .hbm, ⟨33, _⟩ => ⟨S8x32x2048, .f32⟩
  | .hbm, ⟨34, _⟩ => ⟨S8x32x14336, .f32⟩
  | .hbm, ⟨35, _⟩ => ⟨S8x32x2048, .f32⟩
  | .hbm, ⟨36, _⟩ => ⟨S8x32x2048, .f32⟩
  | .hbm, ⟨37, _⟩ => ⟨S8x32x16x128, .f32⟩
  | .hbm, ⟨38, _⟩ => ⟨S1x8x32x16x128, .f32⟩
  | .hbm, ⟨39, _⟩ => ⟨S8x32x16x128, .f32⟩
  | .hbm, ⟨40, _⟩ => ⟨S1x8x32x16x128, .f32⟩
  | _, _ => ⟨S8x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel5.lean ====
abbrev S4x8192x2048 : Shape := ⟨3, ![4, 8192, 2048]⟩
abbrev S16384x2048 : Shape := ⟨2, ![16384, 2048]⟩
abbrev S4x8x128x8192 : Shape := ⟨4, ![4, 8, 128, 8192]⟩
abbrev S4x1x2048 : Shape := ⟨3, ![4, 1, 2048]⟩
abbrev S2048 : Shape := ⟨1, ![2048]⟩
abbrev S2048x16384 : Shape := ⟨2, ![2048, 16384]⟩
abbrev S1x2048 : Shape := ⟨2, ![1, 2048]⟩
abbrev S1x512x2048 : Shape := ⟨3, ![1, 512, 2048]⟩
abbrev S1024x2048 : Shape := ⟨2, ![1024, 2048]⟩
abbrev S2048x1024 : Shape := ⟨2, ![2048, 1024]⟩
abbrev S1x8x8x512 : Shape := ⟨4, ![1, 8, 8, 512]⟩
abbrev S1x8x128x512 : Shape := ⟨4, ![1, 8, 128, 512]⟩
abbrev S1x1x2048 : Shape := ⟨3, ![1, 1, 2048]⟩
abbrev S2048x512 : Shape := ⟨2, ![2048, 512]⟩
abbrev S1024x512 : Shape := ⟨2, ![1024, 512]⟩
abbrev S512x2048 : Shape := ⟨2, ![512, 2048]⟩
abbrev S512x512 : Shape := ⟨2, ![512, 512]⟩
abbrev S1x1x1x512 : Shape := ⟨4, ![1, 1, 1, 512]⟩
abbrev S1x512 : Shape := ⟨2, ![1, 512]⟩
abbrev S16x512 : Shape := ⟨2, ![16, 512]⟩
abbrev S1x1x128x512 : Shape := ⟨4, ![1, 1, 128, 512]⟩
abbrev S128x512 : Shape := ⟨2, ![128, 512]⟩
abbrev S8x16x512 : Shape := ⟨3, ![8, 16, 512]⟩
abbrev S1x16x512 : Shape := ⟨3, ![1, 16, 512]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S4x8192x2048, .bf16⟩
  | .hbm, ⟨1, _⟩ => ⟨S16384x2048, .f32⟩
  | .hbm, ⟨2, _⟩ => ⟨S16384x2048, .f32⟩
  | .hbm, ⟨3, _⟩ => ⟨S4x8x128x8192, .f32⟩
  | .hbm, ⟨4, _⟩ => ⟨S4x8x128x8192, .f32⟩
  | .hbm, ⟨5, _⟩ => ⟨S4x8x128x8192, .bf16⟩
  | .hbm, ⟨6, _⟩ => ⟨S4x8x128x8192, .bf16⟩
  | .hbm, ⟨7, _⟩ => ⟨S4x8192x2048, .f32⟩
  | .hbm, ⟨8, _⟩ => ⟨S4x1x2048, .f32⟩
  | .hbm, ⟨9, _⟩ => ⟨S2048, .f32⟩
  | .hbm, ⟨10, _⟩ => ⟨S2048, .f32⟩
  | .hbm, ⟨11, _⟩ => ⟨S16384x2048, .bf16⟩
  | .hbm, ⟨12, _⟩ => ⟨S16384x2048, .bf16⟩
  | .hbm, ⟨13, _⟩ => ⟨S2048x16384, .bf16⟩
  | .hbm, ⟨14, _⟩ => ⟨S1x2048, .f32⟩
  | .hbm, ⟨15, _⟩ => ⟨S1x2048, .f32⟩
  | .hbm, ⟨16, _⟩ => ⟨S4x8192x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1x8x8x512, .f32⟩
  | .local _ .vmem, ⟨7, _⟩ => ⟨S1x8x8x512, .f32⟩
  | .local _ .vmem, ⟨8, _⟩ => ⟨S1x8x8x512, .f32⟩
  | .local _ .vmem, ⟨9, _⟩ => ⟨S1x8x8x512, .f32⟩
  | .local _ .vmem, ⟨10, _⟩ => ⟨S1x8x128x512, .bf16⟩
  | .local _ .vmem, ⟨11, _⟩ => ⟨S1x8x128x512, .bf16⟩
  | .local _ .vmem, ⟨12, _⟩ => ⟨S1x8x128x512, .bf16⟩
  | .local _ .vmem, ⟨13, _⟩ => ⟨S1x8x128x512, .bf16⟩
  | .local _ .vmem, ⟨14, _⟩ => ⟨S1x512x2048, .f32⟩
  | .local _ .vmem, ⟨15, _⟩ => ⟨S1x512x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x2048, .f32⟩
  | .local _ .vmem, ⟨19, _⟩ => ⟨S1x2048, .f32⟩
  | .local _ .vmem, ⟨20, _⟩ => ⟨S1x512x2048, .f32⟩
  | .local _ .vmem, ⟨21, _⟩ => ⟨S1x512x2048, .f32⟩
  | .local _ .vmem, ⟨22, _⟩ => ⟨S2048x512, .f32⟩
  | .local _ .vmem, ⟨23, _⟩ => ⟨S1024x512, .bf16⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![4, 16, 16], ![false, false, false]⟩

def k0_cond2 (i : grid0.Coords) : BitVec 1 :=
  let arg2 : BitVec 32 := BitVec.ofNat 32 (i 2).val
  let c15_i32 : BitVec 32 := 15#32
  let v1742 : BitVec 1 := Scalar.cmpi .eq arg2 c15_i32
  let v1743 : BitVec 32 := Scalar.extui v1742
  let c0_i32_1134 : BitVec 32 := 0#32
  let v1744 : BitVec 1 := Scalar.cmpi .ne v1743 c0_i32_1134
  v1744

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference5Ideal.lean ====
abbrev S4x8192x2048 : Shape := ⟨3, ![4, 8192, 2048]⟩
abbrev S16384x2048 : Shape := ⟨2, ![16384, 2048]⟩
abbrev S4x8x128x8192 : Shape := ⟨4, ![4, 8, 128, 8192]⟩
abbrev S4x1x2048 : Shape := ⟨3, ![4, 1, 2048]⟩
abbrev S2048 : Shape := ⟨1, ![2048]⟩
abbrev S4x8x1x128x8192 : Shape := ⟨5, ![4, 8, 1, 128, 8192]⟩
abbrev S4x8x128x1x8192 : Shape := ⟨5, ![4, 8, 128, 1, 8192]⟩
abbrev S4x8x128x128x8192 : Shape := ⟨5, ![4, 8, 128, 128, 8192]⟩
abbrev S_ : Shape := ⟨0, ![]⟩
abbrev S4x128x128x8192 : Shape := ⟨4, ![4, 128, 128, 8192]⟩
abbrev S4x16384x8192 : Shape := ⟨3, ![4, 16384, 8192]⟩
abbrev S16384x4x8192 : Shape := ⟨3, ![16384, 4, 8192]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S16384x2048, .f32⟩
  | .hbm, ⟨2, _⟩ => ⟨S16384x2048, .f32⟩
  | .hbm, ⟨3, _⟩ => ⟨S4x8x128x8192, .f32⟩
  | .hbm, ⟨4, _⟩ => ⟨S4x8x128x8192, .f32⟩
  | .hbm, ⟨5, _⟩ => ⟨S4x8x128x8192, .bf16⟩
  | .hbm, ⟨6, _⟩ => ⟨S4x8x128x8192, .bf16⟩
  | .hbm, ⟨7, _⟩ => ⟨S4x8192x2048, .f32⟩
  | .hbm, ⟨8, _⟩ => ⟨S4x1x2048, .f32⟩
  | .hbm, ⟨9, _⟩ => ⟨S2048, .f32⟩
  | .hbm, ⟨10, _⟩ => ⟨S2048, .f32⟩
  | .hbm, ⟨11, _⟩ => ⟨S4x8x128x8192, .f32⟩
  | .hbm, ⟨12, _⟩ => ⟨S4x8x1x128x8192, .f32⟩
  | .hbm, ⟨13, _⟩ => ⟨S4x8x128x1x8192, .f32⟩
  | .hbm, ⟨14, _⟩ => ⟨S4x8x128x128x8192, .f32⟩
  | .hbm, ⟨15, _⟩ => ⟨S4x8x128x128x8192, .f32⟩
  | .hbm, ⟨16, _⟩ => ⟨S4x8x128x128x8192, .i1⟩
  | .hbm, ⟨17, _⟩ => ⟨S4x8x128x1x8192, .f32⟩
  | .hbm, ⟨18, _⟩ => ⟨S4x8x128x8192, .f32⟩
  | .hbm, ⟨19, _⟩ => ⟨S4x8x1x128x8192, .f32⟩
  | .hbm, ⟨20, _⟩ => ⟨S4x8x128x128x8192, .f32⟩
  | .hbm, ⟨21, _⟩ => ⟨S4x8x128x128x8192, .f32⟩
  | .hbm, ⟨22, _⟩ => ⟨S4x8x128x128x8192, .f32⟩
  | .hbm, ⟨23, _⟩ => ⟨S_, .f32⟩
  | .hbm, ⟨24, _⟩ => ⟨S_, .f32⟩
  | .hbm, ⟨25, _⟩ => ⟨S4x8x128x128x8192, .f32⟩
  | .hbm, ⟨26, _⟩ => ⟨S4x8x128x128x8192, .f32⟩
  | .hbm, ⟨27, _⟩ => ⟨S_, .f32⟩
  | .hbm, ⟨28, _⟩ => ⟨S4x128x128x8192, .f32⟩
  | .hbm, ⟨29, _⟩ => ⟨S4x16384x8192, .f32⟩
  | .hbm, ⟨30, _⟩ => ⟨S4x8192x2048, .f32⟩
  | .hbm, ⟨31, _⟩ => ⟨S16384x4x8192, .f32⟩
  | .hbm, ⟨32, _⟩ => ⟨S4x16384x8192, .f32⟩
  | .hbm, ⟨33, _⟩ => ⟨S_, .f32⟩
  | .hbm, ⟨34, _⟩ => ⟨S4x16384x8192, .f32⟩
  | .hbm, ⟨35, _⟩ => ⟨S4x16384x8192, .f32⟩
  | .hbm, ⟨36, _⟩ => ⟨S4x16384x8192, .f32⟩
  | .hbm, ⟨37, _⟩ => ⟨S_, .f32⟩
  | .hbm, ⟨38, _⟩ => ⟨S4x16384x8192, .f32⟩
  | .hbm, ⟨39, _⟩ => ⟨S4x16384x8192, .f32⟩
  | .hbm, ⟨40, _⟩ => ⟨S4x16384x8192, .f32⟩
  | .hbm, ⟨41, _⟩ => ⟨S4x16384x8192, .f32⟩
  | .hbm, ⟨42, _⟩ => ⟨S4x16384x8192, .f32⟩
  | .hbm, ⟨43, _⟩ => ⟨S4x8192x2048, .f32⟩
  | .hbm, ⟨44, _⟩ => ⟨S_, .f32⟩
  | .hbm, ⟨45, _⟩ => ⟨S4x8192x2048, .f32⟩
  | .hbm, ⟨46, _⟩ => ⟨S4x8192x2048, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x2048, .f32⟩
  | .hbm, ⟨57, _⟩ => ⟨S4x8192x2048, .f32⟩
  | .hbm, ⟨58, _⟩ => ⟨S4x8192x2048, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S4x8192x2048, .f32⟩
  | .hbm, ⟨66, _⟩ => ⟨S4x8192x2048, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S4x8192x1, .f32⟩
  | .hbm, ⟨71, _⟩ => ⟨S4x8192x2048, .f32⟩
  | .hbm, ⟨72, _⟩ => ⟨S4x8192x2048, .f32⟩
  | .hbm, ⟨73, _⟩ => ⟨S1x1x2048, .f32⟩
  | .hbm, ⟨74, _⟩ => ⟨S4x8192x2048, .f32⟩
  | .hbm, ⟨75, _⟩ => ⟨S4x8192x2048, .f32⟩
  | .hbm, ⟨76, _⟩ => ⟨S1x1x2048, .f32⟩
  | .hbm, ⟨77, _⟩ => ⟨S4x8192x2048, .f32⟩
  | .hbm, ⟨78, _⟩ => ⟨S4x8192x2048, .f32⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Kernel6.lean ====
abbrev S1x256x2048 : Shape := ⟨3, ![1, 256, 2048]⟩
abbrev S16384x2048 : Shape := ⟨2, ![16384, 2048]⟩
abbrev S1x8x128x256 : Shape := ⟨4, ![1, 8, 128, 256]⟩
abbrev S8x1x2048 : Shape := ⟨3, ![8, 1, 2048]⟩
abbrev S2048 : Shape := ⟨1, ![2048]⟩
abbrev S8x32x2048 : Shape := ⟨3, ![8, 32, 2048]⟩
abbrev S2048x16384 : Shape := ⟨2, ![2048, 16384]⟩
abbrev S1x2048 : Shape := ⟨2, ![1, 2048]⟩
abbrev S1024x2048 : Shape := ⟨2, ![1024, 2048]⟩
abbrev S2048x1024 : Shape := ⟨2, ![2048, 1024]⟩
abbrev S1x8x8x256 : Shape := ⟨4, ![1, 8, 8, 256]⟩
abbrev S2048x256 : Shape := ⟨2, ![2048, 256]⟩
abbrev S1024x256 : Shape := ⟨2, ![1024, 256]⟩
abbrev S512x2048 : Shape := ⟨2, ![512, 2048]⟩
abbrev S256x2048 : Shape := ⟨2, ![256, 2048]⟩
abbrev S512x256 : Shape := ⟨2, ![512, 256]⟩
abbrev S1x1x1x256 : Shape := ⟨4, ![1, 1, 1, 256]⟩
abbrev S1x256 : Shape := ⟨2, ![1, 256]⟩
abbrev S16x256 : Shape := ⟨2, ![16, 256]⟩
abbrev S1x1x128x256 : Shape := ⟨4, ![1, 1, 128, 256]⟩
abbrev S128x256 : Shape := ⟨2, ![128, 256]⟩
abbrev S8x16x256 : Shape := ⟨3, ![8, 16, 256]⟩
abbrev S1x16x256 : Shape := ⟨3, ![1, 16, 256]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S1x256x2048, .bf16⟩
  | .hbm, ⟨1, _⟩ => ⟨S16384x2048, .f32⟩
  | .hbm, ⟨2, _⟩ => ⟨S16384x2048, .f32⟩
  | .hbm, ⟨3, _⟩ => ⟨S1x8x128x256, .f32⟩
  | .hbm, ⟨4, _⟩ => ⟨S1x8x128x256, .f32⟩
  | .hbm, ⟨5, _⟩ => ⟨S1x8x128x256, .bf16⟩
  | .hbm, ⟨6, _⟩ => ⟨S1x8x128x256, .bf16⟩
  | .hbm, ⟨7, _⟩ => ⟨S1x256x2048, .f32⟩
  | .hbm, ⟨8, _⟩ => ⟨S8x1x2048, .f32⟩
  | .hbm, ⟨9, _⟩ => ⟨S2048, .f32⟩
  | .hbm, ⟨10, _⟩ => ⟨S2048, .f32⟩
  | .hbm, ⟨11, _⟩ => ⟨S8x32x2048, .f32⟩
  | .hbm, ⟨12, _⟩ => ⟨S1x256x2048, .f32⟩
  | .hbm, ⟨13, _⟩ => ⟨S16384x2048, .bf16⟩
  | .hbm, ⟨14, _⟩ => ⟨S16384x2048, .bf16⟩
  | .hbm, ⟨15, _⟩ => ⟨S2048x16384, .bf16⟩
  | .hbm, ⟨16, _⟩ => ⟨S1x2048, .f32⟩
  | .hbm, ⟨17, _⟩ => ⟨S1x2048, .f32⟩
  | .hbm, ⟨18, _⟩ => ⟨S1x256x2048, .f32⟩
  | .hbm, ⟨19, _⟩ => ⟨S8x32x2048, .f32⟩
  | .local _ .vmem, ⟨0, _⟩ => ⟨S1x256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .bf16⟩
  | .local _ .vmem, ⟨4, _⟩ => ⟨S2048x1024, .bf16⟩
  | .local _ .vmem, ⟨5, _⟩ => ⟨S1x8x8x256, .f32⟩
  | .local _ .vmem, ⟨6, _⟩ => ⟨S1x8x8x256, .f32⟩
  | .local _ .vmem, ⟨7, _⟩ => ⟨S1x8x8x256, .f32⟩
  | .local _ .vmem, ⟨8, _⟩ => ⟨S1x8x8x256, .f32⟩
  | .local _ .vmem, ⟨9, _⟩ => ⟨S1x8x128x256, .bf16⟩
  | .local _ .vmem, ⟨10, _⟩ => ⟨S1x8x128x256, .bf16⟩
  | .local _ .vmem, ⟨11, _⟩ => ⟨S1x256x2048, .f32⟩
  | .local _ .vmem, ⟨12, _⟩ => ⟨S1x256x2048, .f32⟩
  | .local _ .vmem, ⟨13, _⟩ => ⟨S1x2048, .f32⟩
  | .local _ .vmem, ⟨14, _⟩ => ⟨S1x2048, .f32⟩
  | .local _ .vmem, ⟨15, _⟩ => ⟨S1x256x2048, .f32⟩
  | .local _ .vmem, ⟨16, _⟩ => ⟨S2048x256, .f32⟩
  | .local _ .vmem, ⟨17, _⟩ => ⟨S1024x256, .bf16⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v1742 : BitVec 1 := Scalar.cmpi .eq arg2 c15_i32
  let v1743 : BitVec 32 := Scalar.extui v1742
  let c0_i32_1134 : BitVec 32 := 0#32
  let v1744 : BitVec 1 := Scalar.cmpi .ne v1743 c0_i32_1134
  v1744

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x8x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x8x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]

abbrev stage0_6 : Fin 1 → Memref sig .tc .vmem S1x8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true, false]
-- ==== Reference6Ideal.lean ====
abbrev S1x256x2048 : Shape := ⟨3, ![1, 256, 2048]⟩
abbrev S16384x2048 : Shape := ⟨2, ![16384, 2048]⟩
abbrev S1x8x128x256 : Shape := ⟨4, ![1, 8, 128, 256]⟩
abbrev S8x1x2048 : Shape := ⟨3, ![8, 1, 2048]⟩
abbrev S2048 : Shape := ⟨1, ![2048]⟩
abbrev S1x8x1x128x256 : Shape := ⟨5, ![1, 8, 1, 128, 256]⟩
abbrev S1x8x128x1x256 : Shape := ⟨5, ![1, 8, 128, 1, 256]⟩
abbrev S1x8x128x128x256 : Shape := ⟨5, ![1, 8, 128, 128, 256]⟩
abbrev S_ : Shape := ⟨0, ![]⟩
abbrev S1x128x128x256 : Shape := ⟨4, ![1, 128, 128, 256]⟩
abbrev S1x16384x256 : Shape := ⟨3, ![1, 16384, 256]⟩
abbrev S16384x1x256 : Shape := ⟨3, ![16384, 1, 256]⟩
abbrev S8x32x2048 : Shape := ⟨3, ![8, 32, 2048]⟩
abbrev S8x32 : Shape := ⟨2, ![8, 32]⟩
abbrev S8x32x1 : Shape := ⟨3, ![8, 32, 1]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S1x256x2048, .bf16⟩
  | .hbm, ⟨1, _⟩ => ⟨S16384x2048, .f32⟩
  | .hbm, ⟨2, _⟩ => ⟨S16384x2048, .f32⟩
  | .hbm, ⟨3, _⟩ => ⟨S1x8x128x256, .f32⟩
  | .hbm, ⟨4, _⟩ => ⟨S1x8x128x256, .f32⟩
  | .hbm, ⟨5, _⟩ => ⟨S1x8x128x256, .bf16⟩
  | .hbm, ⟨6, _⟩ => ⟨S1x8x128x256, .bf16⟩
  | .hbm, ⟨7, _⟩ => ⟨S1x256x2048, .f32⟩
  | .hbm, ⟨8, _⟩ => ⟨S8x1x2048, .f32⟩
  | .hbm, ⟨9, _⟩ => ⟨S2048, .f32⟩
  | .hbm, ⟨10, _⟩ => ⟨S2048, .f32⟩
  | .hbm, ⟨11, _⟩ => ⟨S1x8x128x256, .f32⟩
  | .hbm, ⟨12, _⟩ => ⟨S1x8x1x128x256, .f32⟩
  | .hbm, ⟨13, _⟩ => ⟨S1x8x128x1x256, .f32⟩
  | .hbm, ⟨14, _⟩ => ⟨S1x8x128x128x256, .f32⟩
  | .hbm, ⟨15, _⟩ => ⟨S1x8x128x128x256, .f32⟩
  | .hbm, ⟨16, _⟩ => ⟨S1x8x128x128x256, .i1⟩
  | .hbm, ⟨17, _⟩ => ⟨S1x8x128x1x256, .f32⟩
  | .hbm, ⟨18, _⟩ => ⟨S1x8x128x256, .f32⟩
  | .hbm, ⟨19, _⟩ => ⟨S1x8x1x128x256, .f32⟩
  | .hbm, ⟨20, _⟩ => ⟨S1x8x128x128x256, .f32⟩
  | .hbm, ⟨21, _⟩ => ⟨S1x8x128x128x256, .f32⟩
  | .hbm, ⟨22, _⟩ => ⟨S1x8x128x128x256, .f32⟩
  | .hbm, ⟨23, _⟩ => ⟨S_, .f32⟩
  | .hbm, ⟨24, _⟩ => ⟨S_, .f32⟩
  | .hbm, ⟨25, _⟩ => ⟨S1x8x128x128x256, .f32⟩
  | .hbm, ⟨26, _⟩ => ⟨S1x8x128x128x256, .f32⟩
  | .hbm, ⟨27, _⟩ => ⟨S_, .f32⟩
  | .hbm, ⟨28, _⟩ => ⟨S1x128x128x256, .f32⟩
  | .hbm, ⟨29, _⟩ => ⟨S1x16384x256, .f32⟩
  | .hbm, ⟨30, _⟩ => ⟨S1x256x2048, .f32⟩
  | .hbm, ⟨31, _⟩ => ⟨S16384x1x256, .f32⟩
  | .hbm, ⟨32, _⟩ => ⟨S1x16384x256, .f32⟩
  | .hbm, ⟨33, _⟩ => ⟨S_, .f32⟩
  | .hbm, ⟨34, _⟩ => ⟨S1x16384x256, .f32⟩
  | .hbm, ⟨35, _⟩ => ⟨S1x16384x256, .f32⟩
  | .hbm, ⟨36, _⟩ => ⟨S1x16384x256, .f32⟩
  | .hbm, ⟨37, _⟩ => ⟨S_, .f32⟩
  | .hbm, ⟨38, _⟩ => ⟨S1x16384x256, .f32⟩
  | .hbm, ⟨39, _⟩ => ⟨S1x16384x256, .f32⟩
  | .hbm, ⟨40, _⟩ => ⟨S1x16384x256, .f32⟩
  | .hbm, ⟨41, _⟩ => ⟨S1x16384x256, .f32⟩
  | .hbm, ⟨42, _⟩ => ⟨S1x16384x256, .f32⟩
  | .hbm, ⟨43, _⟩ => ⟨S1x256x2048, .f32⟩
  | .hbm, ⟨44, _⟩ => ⟨S8x32x2048, .f32⟩
  | .hbm, ⟨45, _⟩ => ⟨S_, .f32⟩
  | .hbm, ⟨46, _⟩ => ⟨S8x32x2048, .f32⟩
  | .hbm, ⟨47, _⟩ => ⟨S8x32x2048, .f32⟩
  | .hbm, ⟨48, _⟩ => ⟨S8x32x2048, .f32⟩
  | .hbm, ⟨49, _⟩ => ⟨S8x32x2048, .f32⟩
  | .hbm, ⟨50, _⟩ => ⟨S8x32x2048, .f32⟩
  | .hbm, ⟨51, _⟩ => ⟨S8x32x2048, .f32⟩
  | .hbm, ⟨52, _⟩ => ⟨S_, .f32⟩
  | .hbm, ⟨53, _⟩ => ⟨S8x32, .f32⟩
  | .hbm, ⟨54, _⟩ => ⟨S8x32x1, .f32⟩
  | .hbm, ⟨55, _⟩ => ⟨S_, .f32⟩
  | .hbm, ⟨56, _⟩ => ⟨S8x32x1, .f32⟩
  | .hbm, ⟨57, _⟩ => ⟨S8x32x1, .f32⟩
  | .hbm, ⟨58, _⟩ => ⟨S8x32x2048, .f32⟩
  | .hbm, ⟨59, _⟩ => ⟨S8x32x2048, .f32⟩
  | .hbm, ⟨60, _⟩ => ⟨S8x32x2048, .f32⟩
  | .hbm, ⟨61, _⟩ => ⟨S_, .f32⟩
  | .hbm, ⟨62, _⟩ => ⟨S8x32, .f32⟩
  | .hbm, ⟨63, _⟩ => ⟨S8x32x1, .f32⟩
  | .hbm, ⟨64, _⟩ => ⟨S_, .f32⟩
  | .hbm, ⟨65, _⟩ => ⟨S8x32x1, .f32⟩
  | .hbm, ⟨66, _⟩ => ⟨S8x32x1, .f32⟩
  | .hbm, ⟨67, _⟩ => ⟨S8x32x2048, .f32⟩
  | .hbm, ⟨68, _⟩ => ⟨S8x32x2048, .f32⟩
  | .hbm, ⟨69, _⟩ => ⟨S_, .f32⟩
  | .hbm, ⟨70, _⟩ => ⟨S8x32x1, .f32⟩
  | .hbm, ⟨71, _⟩ => ⟨S8x32x1, .f32⟩
  | .hbm, ⟨72, _⟩ => ⟨S8x32x1, .f32⟩
  | .hbm, ⟨73, _⟩ => ⟨S8x32x2048, .f32⟩
  | .hbm, ⟨74, _⟩ => ⟨S8x32x2048, .f32⟩
  | .hbm, ⟨75, _⟩ => ⟨S1x1x2048, .f32⟩
  | .hbm, ⟨76, _⟩ => ⟨S8x32x2048, .f32⟩
  | .hbm, ⟨77, _⟩ => ⟨S8x32x2048, .f32⟩
  | .hbm, ⟨78, _⟩ => ⟨S1x1x2048, .f32⟩
  | .hbm, ⟨79, _⟩ => ⟨S8x32x2048, .f32⟩
  | .hbm, ⟨80, _⟩ => ⟨S8x32x2048, .f32⟩
  | _, _ => ⟨S1x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Proof.Rows.lean ====
/- The layer norm of one row of 2048 numbers, as a function of the row: what both programs of the projection and of the
   mixing call compute of a row, each in its own spelling. -/
module

public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

namespace Cert.Rows

/-- The mean of a row. -/
def mean (f : Fin 2048 → EReal) : EReal := Ideal.div (∑ k, f k) (Ideal.ofBits .f32 0x45000000#32)

/-- The row normalized, at lane `k`: the lane minus the mean, times the reciprocal root of the variance plus the small constant. -/
def norm (f : Fin 2048 → EReal) (k : Fin 2048) : EReal :=
  (f k - mean f) * Ideal.rsqrt (mean (fun l => (f l - mean f) * (f l - mean f)) + Ideal.ofBits .f32 0x3727C5AC#32)

end Cert.Rows

end
-- ==== Proof.Proj.lean ====
/- The projection call: rows normalized with their shift and scale, times the fused input matrix. The kernel
   normalizes a block of 1024 rows at the first of the 14 points that share it, keeps it in a scratch buffer,
   and multiplies it by one 1024-column slab of the matrix per point. -/
module

public import proofs.«01_k».proof.Proof.Gen.Kernel2Ideal.Run
public import proofs.«01_k».proof.Proof.Gen.Reference2Ideal.Run
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Proj

section Reference
open Cert.Reference2Ideal Cert.Reference2Ideal.Gen

/-- The mean over the model axis, kept as a column. -/
def rowMean (v : FVec Ideal S4x8192x2048 .f32) : FVec Ideal S4x8192x1 .f32 :=
  Host.divf (broadcastInDim S4x8192x1 ![0, 1] bcast_S4x8192_S4x8192x1_0_1
      (Host.reduceAdd v (constant S_ .f32 0x00000000#32) reducesTo_S4x8192x2048_S4x8192_d2 h_S_))
    (broadcastInDim S4x8192x1 ![] bcast_S_S4x8192x1 (constant S_ .f32 0x45000000#32))

/-- A row minus its mean. -/
def centred (v : FVec Ideal S4x8192x2048 .f32) : FVec Ideal S4x8192x2048 .f32 :=
  subf v (broadcastInDim S4x8192x2048 ![0, 1, 2] bcast_S4x8192x1_S4x8192x2048_0_1_2 (rowMean v))

/-- The reference's left factor: the rows normalized, times `1 + scale`, plus the shift. -/
def hidden (x : FVec Ideal S4x8192x2048 .f32) (shift scale : FVec Ideal S4x1x2048 .f32) : FVec Ideal S4x8192x2048 .f32 :=
  addf (mulf (mulf (centred x) (broadcastInDim S4x8192x2048 ![0, 1, 2] bcast_S4x8192x1_S4x8192x2048_0_1_2
      (Host.rsqrt (addf (rowMean (mulf (centred x) (centred x)))
        (broadcastInDim S4x8192x1 ![] bcast_S_S4x8192x1 (constant S_ .f32 0x3727C5AC#32))))))
    (broadcastInDim S4x8192x2048 ![0, 1, 2] bcast_S4x1x2048_S4x8192x2048_0_1_2
      (addf (broadcastInDim S4x1x2048 ![] bcast_S_S4x1x2048 (constant S_ .f32 0x3F800000#32)) scale)))
    (broadcastInDim S4x8192x2048 ![0, 1, 2] bcast_S4x1x2048_S4x8192x2048_0_1_2 shift)

/-- The reference's result. -/
def REF (x : FVec Ideal S4x8192x2048 .f32) (shift scale : FVec Ideal S4x1x2048 .f32) (w : FVec Ideal S2048x14336 .f32) : FVec Ideal S4x8192x14336 .f32 :=
  Host.dotGeneral dot_S4x8192x2048_S2048x14336_S4x8192x14336_2_0_01_1_n_n none (hidden x shift scale) w

/-- The left factor at an index. -/
theorem hidden_at (x : FVec Ideal S4x8192x2048 .f32) (shift scale : FVec Ideal S4x1x2048 .f32) (b : Fin 4) (r : Fin 8192) (k : Fin 2048) :
    hidden x shift scale (ix3 b r k) = Rows.norm (fun l => x (ix3 b r l)) k * (1 + scale (ix3 b 0 k)) + shift (ix3 b 0 k) := by
  pointwise [hidden, centred, rowMean, Rows.norm, Rows.mean]

/-- The result at an index. -/
theorem ref_at (x : FVec Ideal S4x8192x2048 .f32) (shift scale : FVec Ideal S4x1x2048 .f32) (w : FVec Ideal S2048x14336 .f32)
    (b : Fin 4) (r : Fin 8192) (k : Fin 14336) :
    REF x shift scale w (ix3 b r k) = ∑ l : Fin 2048, hidden x shift scale (ix3 b r l) * w (ix2 l k) := by
  pointwise [REF]

end Reference

end Cert.Proj

namespace Cert.Kernel2Ideal.Value

open Cert.Kernel2Ideal Cert.Kernel2Ideal.Gen Cert.Proj

variable (m : (ℓ : Loc nD τ sig) → Buf (Elt Ideal) ℓ)

/-- Which block of its array each window holds at a grid point. -/
theorem idx : ∀ t : Fin cfg0.N, win0_0.index t = ![t.val / 112, t.val / 14 % 8, 0] ∧ win0_1.index t = ![t.val / 112, 0, 0]
    ∧ win0_2.index t = ![t.val / 112, 0, 0] ∧ win0_3.index t = ![0, t.val % 14] ∧ win0_4.index t = ![t.val / 112, t.val / 14 % 8, t.val % 14] :=
  (by decide +kernel : ∀ t : Fin grid0.N, _)

/-- The normalized block at a row and lane. -/
theorem pay1_at (x0 : Vec Ideal S1x1024x2048 .f32) (sc sh : Vec Ideal S1x1x2048 .f32) (r : Fin 1024) (k : Fin 2048) :
    k0_pay1 (F := Ideal) x0 sc sh (ix2 r k) = Rows.norm (fun l => x0 (ix3 0 r l)) k * (1 + sc (ix3 0 0 k)) + sh (ix3 0 0 k) := by
  pointwise [k0_pay1, Rows.norm, Rows.mean]

/-- The stored product at a row and column of the block. -/
theorem pay2_at (h : Vec Ideal S1024x2048 .bf16) (w : Vec Ideal S2048x1024 .bf16) (b : Fin 1) (r : Fin 1024) (k : Fin 1024) :
    k0_pay2 (F := Ideal) h w (ix3 b r k) = ∑ l : Fin 2048, h (ix2 r l) * w (ix2 l k) := by
  pointwise [k0_pay2]

/-- The scratch buffer after a point: the normalized block of the run's first point. -/
theorem held (c : Dev nD) (t : Fin cfg0.N) :
    (outsAt0 m c t.val t.isLt).2 = (fun s : Fin cfg0.N => k0_pay1 (F := Ideal) (iblk m c 0 s) (iblk m c 2 s) (iblk m c 1 s))
      ⟨14 * (t.val / 14), Pipeline.run_start_lt t⟩ :=
  Pipeline.eq_of_write_hold (fun n h => (outsAt0 m c n h).2) 14
    (fun s : Fin cfg0.N => k0_pay1 (F := Ideal) (iblk m c 0 s) (iblk m c 2 s) (iblk m c 1 s))
    (fun t h => by
      rw [outsAt0_A m c t h]; frame_out)
    (fun t h => by rw [outsAt0_B m c t h]; rfl) t

/-- The output block after a point: the scratch buffer's block times the point's slab of the matrix. -/
theorem stored (c : Dev nD) (t : Fin cfg0.N) :
    (outsAt0 m c t.val t.isLt).1 = k0_pay2 (F := Ideal) (outsAt0 m c t.val t.isLt).2 (iblk m c 3 t) := by
  by_cases h : t.val % 14 = 0
  · rw [outsAt0_A m c t h]; frame_out
  · rw [outsAt0_B m c t h]; frame_out
    exact congrArg (fun z => k0_pay2 (F := Ideal) z (iblk m c 3 t)) ((Memref.isWhole_whole cc0_scratch0).read_unread _)

/-- The result array after the run is the reference's. -/
theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, stored, held]
  dsimp only
  obtain ⟨b, r, k, rfl⟩ : ∃ (b : Fin 1) (r : Fin 1024) (k : Fin 1024), y = ix3 b r k := ⟨y 0, y 1, y 2, eq_ix3 y⟩
  have ht : t.val < 448 := lt_of_lt_of_eq t.isLt N_0
  have hs : 14 * (t.val / 14) < 448 := by omega
  have i0 := idx ⟨14 * (t.val / 14), Pipeline.run_start_lt t⟩
  have hp : (((View.whole main_v1).slice (win0_4.rect t)).emb (ix3 b r k) : S4x8192x14336.Idx)
      = ix3 (⟨t.val / 112, by omega⟩ : Fin 4) (⟨t.val / 14 % 8 * 1024 + r.val, by omega⟩ : Fin 8192) (⟨t.val % 14 * 1024 + k.val, by omega⟩ : Fin 14336) := by
    blk_ext [idx t]
  have h0 : ∀ l : Fin 2048, (iblk m c 0 ⟨14 * (t.val / 14), Pipeline.run_start_lt t⟩ : FVec Ideal S1x1024x2048 .f32) (ix3 0 r l)
      = (m ((c : Thread nD τ).loc main_arg0) : FVec Ideal S4x8192x2048 .f32) (ix3 ⟨t.val / 112, by omega⟩ ⟨t.val / 14 % 8 * 1024 + r.val, by omega⟩ l) := fun l => by
    blk_ext [iblk, V, i0]
  have h1 : ∀ l : Fin 2048, (iblk m c 1 ⟨14 * (t.val / 14), Pipeline.run_start_lt t⟩ : FVec Ideal S1x1x2048 .f32) (ix3 0 0 l)
      = (m ((c : Thread nD τ).loc main_arg1) : FVec Ideal S4x1x2048 .f32) (ix3 ⟨t.val / 112, by omega⟩ 0 l) := fun l => by
    blk_ext [iblk, V, i0]
  have h2 : ∀ l : Fin 2048, (iblk m c 2 ⟨14 * (t.val / 14), Pipeline.run_start_lt t⟩ : FVec Ideal S1x1x2048 .f32) (ix3 0 0 l)
      = (m ((c : Thread nD τ).loc main_arg2) : FVec Ideal S4x1x2048 .f32) (ix3 ⟨t.val / 112, by omega⟩ 0 l) := fun l => by
    blk_ext [iblk, V, i0]
  have h3 : ∀ l : Fin 2048, (iblk m c 3 t : FVec Ideal S2048x1024 .bf16) (ix2 l k)
      = (m ((c : Thread nD τ).loc main_arg3) : FVec Ideal S2048x14336 .f32) (ix2 l ⟨t.val % 14 * 1024 + k.val, by omega⟩) := fun l => by
    blk_point [iblk, V, idx t]
  refine (pay2_at _ _ b r k).trans ?_
  refine Eq.trans ?_ (congrArg _ hp.symm)
  refine Eq.trans ?_ (ref_at _ _ _ _ _ _ _).symm
  refine Finset.sum_congr rfl fun l _ => congrArg₂ (fun a b : EReal => a * b) ?_ (h3 l)
  refine (pay1_at _ _ _ r l).trans (Eq.trans ?_ (hidden_at _ _ _ _ _ _).symm)
  refine congrArg₂ (fun a b : EReal => a + b) (congrArg₂ (fun a b : EReal => a * b) ?_ (congrArg (fun b : EReal => 1 + b) (h2 l))) (h1 l)
  exact congrArg (fun f => Rows.norm f l) (funext fun a => h0 a)

end Cert.Kernel2Ideal.Value

end
-- ==== Proof.Kept.lean ====
/- The rows of keys and values that the prompt leaves behind: slicing the projection's last 512 rows and cutting
   them in heads is cutting in heads and slicing. -/
module

public import Idealize.ShloMosaic.Lib.Pipeline.ValueKit
public import Idealize.ShloMosaic.Lib.Pointwise
public import proofs.«01_k».proof.Reference2Ideal
public import proofs.«01_k».proof.Kernel2Ideal

@[expose] public section

set_option maxRecDepth 16384

noncomputable section

open Idealize.ShloMosaic

namespace Cert.Proj

open Cert.Kernel2Ideal

/-- One head's row of the last 512, read from the projection at column offset 6144. -/
theorem kept_keys (a : FVec Ideal S4x8192x14336 .f32) (h1 : S4x8192x14336.Slices ![0, 7680, 6144] S4x512x2048)
    (h2 : S4x512x2048.ShapeCasts S4x512x16x128) (h3 : S4x8192x14336.Slices ![0, 0, 6144] S4x8192x2048)
    (h4 : S4x8192x2048.ShapeCasts Cert.Reference2Ideal.S4x8192x16x128) (h5 : Cert.Reference2Ideal.S4x8192x16x128.Slices ![0, 7680, 0, 0] S4x512x16x128) :
    shapeCast S4x512x16x128 (extractStridedSlice S4x512x2048 ![0, 7680, 6144] a h1) h2
      = extractStridedSlice S4x512x16x128 ![0, 7680, 0, 0] (shapeCast Cert.Reference2Ideal.S4x8192x16x128 (extractStridedSlice S4x8192x2048 ![0, 0, 6144] a h3) h4) h5 := by
  funext i
  obtain ⟨b, r, h, e, rfl⟩ : ∃ (b : Fin 4) (r : Fin 512) (h : Fin 16) (e : Fin 128), i = ix4 b r h e := ⟨i 0, i 1, i 2, i 3, eq_ix4 i⟩
  pointwise

/-- One head's row of the last 512, read from the projection at column offset 8192. -/
theorem kept_values (a : FVec Ideal S4x8192x14336 .f32) (h1 : S4x8192x14336.Slices ![0, 7680, 8192] S4x512x2048)
    (h2 : S4x512x2048.ShapeCasts S4x512x16x128) (h3 : S4x8192x14336.Slices ![0, 0, 8192] S4x8192x2048)
    (h4 : S4x8192x2048.ShapeCasts Cert.Reference2Ideal.S4x8192x16x128) (h5 : Cert.Reference2Ideal.S4x8192x16x128.Slices ![0, 7680, 0, 0] S4x512x16x128) :
    shapeCast S4x512x16x128 (extractStridedSlice S4x512x2048 ![0, 7680, 8192] a h1) h2
      = extractStridedSlice S4x512x16x128 ![0, 7680, 0, 0] (shapeCast Cert.Reference2Ideal.S4x8192x16x128 (extractStridedSlice S4x8192x2048 ![0, 0, 8192] a h3) h4) h5 := by
  funext i
  obtain ⟨b, r, h, e, rfl⟩ : ∃ (b : Fin 4) (r : Fin 512) (h : Fin 16) (e : Fin 128), i = ix4 b r h e := ⟨i 0, i 1, i 2, i 3, eq_ix4 i⟩
  pointwise

end Cert.Proj

end
-- ==== Proof.Mix.lean ====
/- The mixing call: the sum of the two branches through the output matrix, the scaled residual, the first
   layer norm, and the second norm with its shift and scale, block of 512 rows by block of 512 rows.
   Each block that a grid point stores is the reference's term read at the block's rows. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import proofs.«01_k».proof.Proof.Rows

@[expose] public section

set_option maxRecDepth 16384

noncomputable section
open Idealize.ShloMosaic Idealize.ShloMosaic.TcCoe Idealize.SL.Sem
open Idealize.ShloMosaic.Pipeline (Dat)

/-! ## The reference's two results, in pieces -/

namespace Cert.Mix

section Reference
open Cert.Reference3Ideal Cert.Reference3Ideal.Gen

/-- The residual stream: `ALPHA * x` plus the gated product of the two branches' sum with the output matrix. -/
def stream (pa pb : FVec Ideal S4x8192x2048 .bf16) (x : FVec Ideal S4x8192x2048 .f32) (w : FVec Ideal S2048x2048 .f32)
    (gate : FVec Ideal S4x1x2048 .f32) : FVec Ideal S4x8192x2048 .f32 :=
  addf (mulf (broadcastInDim S4x8192x2048 ![] bcast_S_S4x8192x2048 (constant S_ .f32 0x3F9837F0#32)) x)
    (mulf (broadcastInDim S4x8192x2048 ![0, 1, 2] bcast_S4x1x2048_S4x8192x2048_0_1_2 gate)
      (Host.dotGeneral dot_S4x8192x2048_S2048x2048_S4x8192x2048_2_0_01_1_n_n none
        (addf (extf .f32 pa bitsLt_bf16_f32) (extf .f32 pb bitsLt_bf16_f32)) w))

/-- The mean over the model axis, kept as a column. -/
def rowMean (v : FVec Ideal S4x8192x2048 .f32) : FVec Ideal S4x8192x1 .f32 :=
  Host.divf (broadcastInDim S4x8192x1 ![0, 1] bcast_S4x8192_S4x8192x1_0_1
      (Host.reduceAdd v (constant S_ .f32 0x00000000#32) reducesTo_S4x8192x2048_S4x8192_d2 h_S_))
    (broadcastInDim S4x8192x1 ![] bcast_S_S4x8192x1 (constant S_ .f32 0x45000000#32))

/-- A row minus its mean. -/
def centred (v : FVec Ideal S4x8192x2048 .f32) : FVec Ideal S4x8192x2048 .f32 :=
  subf v (broadcastInDim S4x8192x2048 ![0, 1, 2] bcast_S4x8192x1_S4x8192x2048_0_1_2 (rowMean v))

/-- A row normalized: centred, times the reciprocal root of its variance plus the small constant. -/
def normed (v : FVec Ideal S4x8192x2048 .f32) : FVec Ideal S4x8192x2048 .f32 :=
  mulf (centred v) (broadcastInDim S4x8192x2048 ![0, 1, 2] bcast_S4x8192x1_S4x8192x2048_0_1_2
    (Host.rsqrt (addf (rowMean (mulf (centred v) (centred v)))
      (broadcastInDim S4x8192x1 ![] bcast_S_S4x8192x1 (constant S_ .f32 0x3727C5AC#32)))))

/-- The first result: the residual stream after the affine layer norm. -/
def REF9 (pa pb : FVec Ideal S4x8192x2048 .bf16) (x : FVec Ideal S4x8192x2048 .f32) (w : FVec Ideal S2048x2048 .f32)
    (gate : FVec Ideal S4x1x2048 .f32) (lg lb : FVec Ideal S2048 .f32) : FVec Ideal S4x8192x2048 .f32 :=
  addf (mulf (normed (stream pa pb x w gate))
      (broadcastInDim S4x8192x2048 ![0, 1, 2] bcast_S1x1x2048_S4x8192x2048_0_1_2 (broadcastInDim S1x1x2048 ![2] bcast_S2048_S1x1x2048_2 lg)))
    (broadcastInDim S4x8192x2048 ![0, 1, 2] bcast_S1x1x2048_S4x8192x2048_0_1_2 (broadcastInDim S1x1x2048 ![2] bcast_S2048_S1x1x2048_2 lb))

/-- The second result: the first one normalized again, scaled by `1 + scale` and shifted. -/
def REF10 (pa pb : FVec Ideal S4x8192x2048 .bf16) (x : FVec Ideal S4x8192x2048 .f32) (w : FVec Ideal S2048x2048 .f32)
    (gate shift scale : FVec Ideal S4x1x2048 .f32) (lg lb : FVec Ideal S2048 .f32) : FVec Ideal S4x8192x2048 .bf16 :=
  truncf .bf16 (addf (mulf (normed (REF9 pa pb x w gate lg lb))
      (broadcastInDim S4x8192x2048 ![0, 1, 2] bcast_S4x1x2048_S4x8192x2048_0_1_2
        (addf (broadcastInDim S4x1x2048 ![] bcast_S_S4x1x2048 (constant S_ .f32 0x3F800000#32)) scale)))
    (broadcastInDim S4x8192x2048 ![0, 1, 2] bcast_S4x1x2048_S4x8192x2048_0_1_2 shift)) bitsLt_bf16_f32

/-- The reference's first composed term is `REF9` of its arguments. -/
theorem ref9_eq (m : (ℓ : Loc nD τ sig) → Buf (Elt Ideal) ℓ) (c : Dev nD) :
    Cert.Reference3Ideal.Value.res_main_v32 m c
      = REF9 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg7)) (m ((c.tc : Thread nD τ).loc main_arg8)) := by
  unfold Cert.Reference3Ideal.Value.res_main_v32
  rfl

/-- The reference's second composed term is `REF10` of its arguments. -/
theorem ref10_eq (m : (ℓ : Loc nD τ sig) → Buf (Elt Ideal) ℓ) (c : Dev nD) :
    Cert.Reference3Ideal.Value.res_main_v57 m c
      = REF10 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  unfold Cert.Reference3Ideal.Value.res_main_v57
  rfl

/-- The reference's normalization reads a row at a time. -/
theorem normed_at (v : FVec Ideal S4x8192x2048 .f32) (b : Fin 4) (r : Fin 8192) (k : Fin 2048) :
    normed v (ix3 b r k) = Rows.norm (fun l => v (ix3 b r l)) k := by
  pointwise [normed, centred, rowMean, Rows.norm, Rows.mean]

/-- The residual stream at an index. -/
theorem stream_at (pa pb : FVec Ideal S4x8192x2048 .bf16) (x : FVec Ideal S4x8192x2048 .f32) (w : FVec Ideal S2048x2048 .f32)
    (gate : FVec Ideal S4x1x2048 .f32) (b : Fin 4) (r : Fin 8192) (k : Fin 2048) :
    stream pa pb x w gate (ix3 b r k) = Ideal.ofBits .f32 0x3F9837F0#32 * x (ix3 b r k)
      + gate (ix3 b 0 k) * ∑ l : Fin 2048, (pa (ix3 b r l) + pb (ix3 b r l)) * w (ix2 l k) := by
  pointwise [stream]

/-- The first result at an index. -/
theorem ref9_at (pa pb : FVec Ideal S4x8192x2048 .bf16) (x : FVec Ideal S4x8192x2048 .f32) (w : FVec Ideal S2048x2048 .f32)
    (gate : FVec Ideal S4x1x2048 .f32) (lg lb : FVec Ideal S2048 .f32) (b : Fin 4) (r : Fin 8192) (k : Fin 2048) :
    REF9 pa pb x w gate lg lb (ix3 b r k) = Rows.norm (fun l => stream pa pb x w gate (ix3 b r l)) k * lg (ix1 k) + lb (ix1 k) := by
  pointwise [REF9, normed_at]

/-- The second result at an index. -/
theorem ref10_at (pa pb : FVec Ideal S4x8192x2048 .bf16) (x : FVec Ideal S4x8192x2048 .f32) (w : FVec Ideal S2048x2048 .f32)
    (gate shift scale : FVec Ideal S4x1x2048 .f32) (lg lb : FVec Ideal S2048 .f32) (b : Fin 4) (r : Fin 8192) (k : Fin 2048) :
    REF10 pa pb x w gate shift scale lg lb (ix3 b r k)
      = Rows.norm (fun l => REF9 pa pb x w gate lg lb (ix3 b r l)) k * (1 + scale (ix3 b 0 k)) + shift (ix3 b 0 k) := by
  pointwise [REF10, normed_at]

end Reference

end Cert.Mix

/-! ## The kernel's blocks -/

namespace Cert.Kernel3Ideal.Value

open Cert.Kernel3Ideal Cert.Kernel3Ideal.Gen Cert.Mix

variable (m : (ℓ : Loc nD τ sig) → Buf (Elt Ideal) ℓ)

/-- Which block of its array each window holds at a grid point. -/
theorem idx : ∀ t : Fin cfg0.N, (win0_0.index t = ![t.val / 16, t.val % 16, 0] ∧ win0_1.index t = ![t.val / 16, t.val % 16, 0]
    ∧ win0_2.index t = ![t.val / 16, t.val % 16, 0] ∧ win0_9.index t = ![t.val / 16, t.val % 16, 0]
    ∧ win0_10.index t = ![t.val / 16, t.val % 16, 0]) ∧ win0_3.index t = ![0, 0] ∧ win0_4.index t = ![t.val / 16, 0, 0]
    ∧ win0_5.index t = ![t.val / 16, 0, 0] ∧ win0_6.index t = ![t.val / 16, 0, 0] ∧ win0_7.index t = ![0, 0] ∧ win0_8.index t = ![0, 0] :=
  (by decide +kernel : ∀ t : Fin grid0.N, _)

/-- The stored residual stream's norm before the affine part, at a row and lane of the block. -/
theorem pay1_at (x0 x1 : Vec Ideal S1x512x2048 .bf16) (x3 : Vec Ideal S2048x2048 .bf16) (x2 : Vec Ideal S1x512x2048 .f32)
    (x4 : Vec Ideal S1x1x2048 .f32) (r : Fin 512) (k : Fin 2048) :
    k0_pay1 (F := Ideal) x0 x1 x3 x2 x4 (ix2 r k)
      = Rows.norm (fun l => Ideal.ofBits .f32 0x3F9837F0#32 * x2 (ix3 0 r l)
          + x4 (ix3 0 0 l) * ∑ a : Fin 2048, (x0 (ix3 0 r a) + x1 (ix3 0 r a)) * x3 (ix2 a l)) k := by
  pointwise [k0_pay1, Rows.norm, Rows.mean]

/-- The affine part on top of it. -/
theorem pay3_at (v : FVec Ideal S512x2048 .f32) (g b : Vec Ideal S1x2048 .f32) (r : Fin 512) (k : Fin 2048) :
    k0_pay3 (F := Ideal) v (k0_pay2 g) b (ix2 r k) = v (ix2 r k) * g (ix2 0 k) + b (ix2 0 k) := by
  pointwise [k0_pay3, k0_pay2]

/-- The block stored in the second output. -/
theorem pay5_at (v : FVec Ideal S512x2048 .f32) (g b : Vec Ideal S1x2048 .f32) (sc sh : Vec Ideal S1x1x2048 .f32) (r : Fin 512) (k : Fin 2048) :
    k0_pay5 (F := Ideal) v (k0_pay2 g) b sc sh (ix3 0 r k)
      = Rows.norm (fun l => k0_pay3 (F := Ideal) v (k0_pay2 g) b (ix2 r l)) k * (1 + sc (ix3 0 0 k)) + sh (ix3 0 0 k) := by
  pointwise [k0_pay5, Rows.norm, Rows.mean]

/-- A row of what a grid point computes for the first output is `REF9` at the row's place in the array. -/
theorem row9 (c : Dev nD) (t : Fin cfg0.N) (b : Fin 4) (hb : b.val = t.val / 16) (r : Fin 512) (R : Fin 8192) (hR : R.val = t.val % 16 * 512 + r.val) (k : Fin 2048) :
    k0_pay3 (F := Ideal) (k0_pay1 (F := Ideal) (iblk m c 0 t) (iblk m c 1 t) (iblk m c 3 t) (iblk m c 2 t) (iblk m c 4 t)) (k0_pay2 (F := Ideal) (iblk m c 7 t)) (iblk m c 8 t) (ix2 r k)
    = REF9 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg7)) (m ((c : Thread nD τ).loc main_arg8))
        (ix3 b R k) := by
  have h0 : ∀ l : Fin 2048, (iblk m c 0 t : FVec Ideal S1x512x2048 .bf16) (ix3 0 r l) = (m ((c : Thread nD τ).loc main_arg0) : FVec Ideal S4x8192x2048 .bf16) (ix3 b R l) := fun l => by
    blk_ext [iblk, V, idx t]
  have h1 : ∀ l : Fin 2048, (iblk m c 1 t : FVec Ideal S1x512x2048 .bf16) (ix3 0 r l) = (m ((c : Thread nD τ).loc main_arg1) : FVec Ideal S4x8192x2048 .bf16) (ix3 b R l) := fun l => by
    blk_ext [iblk, V, idx t]
  have h2 : ∀ l : Fin 2048, (iblk m c 2 t : FVec Ideal S1x512x2048 .f32) (ix3 0 r l) = (m ((c : Thread nD τ).loc main_arg2) : FVec Ideal S4x8192x2048 .f32) (ix3 b R l) := fun l => by
    blk_ext [iblk, V, idx t]
  have h3 : ∀ a l : Fin 2048, (iblk m c 3 t : FVec Ideal S2048x2048 .bf16) (ix2 a l) = (m ((c : Thread nD τ).loc main_arg3) : FVec Ideal S2048x2048 .f32) (ix2 a l) := fun a l => by
    blk_point [iblk, V, idx t]
  have h4 : ∀ l : Fin 2048, (iblk m c 4 t : FVec Ideal S1x1x2048 .f32) (ix3 0 0 l) = (m ((c : Thread nD τ).loc main_arg4) : FVec Ideal S4x1x2048 .f32) (ix3 b 0 l) := fun l => by
    blk_ext [iblk, V, idx t]
  have h7 : ∀ l : Fin 2048, (iblk m c 7 t : FVec Ideal S1x2048 .f32) (ix2 0 l) = (m ((c : Thread nD τ).loc main_arg7) : FVec Ideal S2048 .f32) (ix1 l) := fun l => by
    blk_point [iblk, V, idx t]
  have h8 : ∀ l : Fin 2048, (iblk m c 8 t : FVec Ideal S1x2048 .f32) (ix2 0 l) = (m ((c : Thread nD τ).loc main_arg8) : FVec Ideal S2048 .f32) (ix1 l) := fun l => by
    blk_point [iblk, V, idx t]
  refine (pay3_at _ _ _ r k).trans ?_
  refine Eq.trans ?_ (ref9_at _ _ _ _ _ _ _ b R k).symm
  refine congrArg₂ (fun a b : EReal => a + b) (congrArg₂ (fun a b : EReal => a * b) ?_ (h7 k)) (h8 k)
  refine (pay1_at _ _ _ _ _ r k).trans (congrArg (fun f => Rows.norm f k) (funext fun l => ?_))
  refine Eq.trans ?_ (stream_at _ _ _ _ _ b R l).symm
  refine congrArg₂ (fun a b : EReal => a + b) (congrArg (fun b : EReal => _ * b) (h2 l)) (congrArg₂ (fun a b : EReal => a * b) (h4 l) ?_)
  exact Finset.sum_congr rfl fun a _ => congrArg₂ (fun a b : EReal => a * b) (congrArg₂ (fun a b : EReal => a + b) (h0 a) (h1 a)) (h3 a l)

/-- The first output after the run is the reference's first result. -/
theorem final9 (c : Dev nD) : (dats m 0 c).arrAt 9 cfg0.N
    = REF9 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg7)) (m ((c : Thread nD τ).loc main_arg8)) := by
  refine (dats m 0 c).arrAt_eq_of_covers 9 _ (by decide +kernel) fun t hf y => ?_
  blk_simp
  rw [after0_9]; unfold_out out0_9; frame_out
  obtain ⟨b, r, k, rfl⟩ : ∃ (b : Fin 1) (r : Fin 512) (k : Fin 2048), y = ix3 b r k := ⟨y 0, y 1, y 2, eq_ix3 y⟩
  have ht : t.val < 64 := lt_of_lt_of_eq t.isLt N_0
  have hp : (((View.whole main_v3_0).slice (win0_9.rect t)).emb (ix3 b r k) : S4x8192x2048.Idx)
      = ix3 (⟨t.val / 16, by omega⟩ : Fin 4) (⟨t.val % 16 * 512 + r.val, by omega⟩ : Fin 8192) k := by
    blk_ext [idx t]
  refine Eq.trans (b := k0_pay3 (F := Ideal) (k0_pay1 (F := Ideal) (iblk m c 0 t) (iblk m c 1 t) (iblk m c 3 t) (iblk m c 2 t) (iblk m c 4 t)) (k0_pay2 (F := Ideal) (iblk m c 7 t)) (iblk m c 8 t) (ix2 r k)) ?_ ?_
  · pointwise [k0_pay4]
  · exact (row9 m c t ⟨t.val / 16, by omega⟩ rfl r ⟨t.val % 16 * 512 + r.val, by omega⟩ rfl k).trans (congrArg _ hp.symm)

/-- The second output after the run is the reference's second result. -/
theorem final10 (c : Dev nD) : (dats m 0 c).arrAt 10 cfg0.N
    = REF10 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_covers 10 _ (by decide +kernel) fun t hf y => ?_
  blk_simp
  rw [after0_10]; unfold_out out0_10; frame_out
  obtain ⟨b, r, k, rfl⟩ : ∃ (b : Fin 1) (r : Fin 512) (k : Fin 2048), y = ix3 b r k := ⟨y 0, y 1, y 2, eq_ix3 y⟩
  have ht : t.val < 64 := lt_of_lt_of_eq t.isLt N_0
  have hp : (((View.whole main_v3_1).slice (win0_10.rect t)).emb (ix3 b r k) : S4x8192x2048.Idx)
      = ix3 (⟨t.val / 16, by omega⟩ : Fin 4) (⟨t.val % 16 * 512 + r.val, by omega⟩ : Fin 8192) k := by
    blk_ext [idx t]
  obtain rfl : b = 0 := Subsingleton.elim _ _
  have h5 : (iblk m c 5 t : FVec Ideal S1x1x2048 .f32) (ix3 0 0 k) = (m ((c : Thread nD τ).loc main_arg5) : FVec Ideal S4x1x2048 .f32) (ix3 ⟨t.val / 16, by omega⟩ 0 k) := by
    blk_ext [iblk, V, idx t]
  have h6 : (iblk m c 6 t : FVec Ideal S1x1x2048 .f32) (ix3 0 0 k) = (m ((c : Thread nD τ).loc main_arg6) : FVec Ideal S4x1x2048 .f32) (ix3 ⟨t.val / 16, by omega⟩ 0 k) := by
    blk_ext [iblk, V, idx t]
  refine (pay5_at _ _ _ _ _ r k).trans ?_
  refine Eq.trans ?_ (congrArg _ hp.symm)
  refine Eq.trans ?_ (ref10_at _ _ _ _ _ _ _ _ _ _ _ _).symm
  refine congrArg₂ (fun a b : EReal => a + b) (congrArg₂ (fun a b : EReal => a * b) ?_ (congrArg (fun b : EReal => 1 + b) h6)) h5
  exact congrArg (fun f => Rows.norm f k) (funext fun l => row9 m c t ⟨t.val / 16, by omega⟩ rfl r ⟨t.val % 16 * 512 + r.val, by omega⟩ rfl l)

end Cert.Kernel3Ideal.Value

end
-- ==== Proof.Sample.lean ====
/- The projection call on the sample: its 8 sequences of 32 rows are laid end to end as one block of 256 rows, which
   the first of the 14 points normalizes; every point multiplies it by one 1024-column slab of the matrix. -/
module

public import proofs.«01_k».proof.Proof.Gen.Kernel4Ideal.Run
public import proofs.«01_k».proof.Proof.Gen.Reference4Ideal.Run
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Sample

section Reference
open Cert.Reference4Ideal Cert.Reference4Ideal.Gen

/-- The mean over the model axis, kept as a column. -/
def rowMean (v : FVec Ideal S8x32x2048 .f32) : FVec Ideal S8x32x1 .f32 :=
  Host.divf (broadcastInDim S8x32x1 ![0, 1] bcast_S8x32_S8x32x1_0_1
      (Host.reduceAdd v (constant S_ .f32 0x00000000#32) reducesTo_S8x32x2048_S8x32_d2 h_S_))
    (broadcastInDim S8x32x1 ![] bcast_S_S8x32x1 (constant S_ .f32 0x45000000#32))

/-- A row minus its mean. -/
def centred (v : FVec Ideal S8x32x2048 .f32) : FVec Ideal S8x32x2048 .f32 :=
  subf v (broadcastInDim S8x32x2048 ![0, 1, 2] bcast_S8x32x1_S8x32x2048_0_1_2 (rowMean v))

/-- The reference's left factor: the rows normalized, times `1 + scale`, plus the shift. -/
def hidden (x : FVec Ideal S8x32x2048 .f32) (shift scale : FVec Ideal S8x1x2048 .f32) : FVec Ideal S8x32x2048 .f32 :=
  addf (mulf (mulf (centred x) (broadcastInDim S8x32x2048 ![0, 1, 2] bcast_S8x32x1_S8x32x2048_0_1_2
      (Host.rsqrt (addf (rowMean (mulf (centred x) (centred x)))
        (broadcastInDim S8x32x1 ![] bcast_S_S8x32x1 (constant S_ .f32 0x3727C5AC#32))))))
    (broadcastInDim S8x32x2048 ![0, 1, 2] bcast_S8x1x2048_S8x32x2048_0_1_2
      (addf (broadcastInDim S8x1x2048 ![] bcast_S_S8x1x2048 (constant S_ .f32 0x3F800000#32)) scale)))
    (broadcastInDim S8x32x2048 ![0, 1, 2] bcast_S8x1x2048_S8x32x2048_0_1_2 shift)

/-- The reference's result. -/
def REF (x : FVec Ideal S8x32x2048 .f32) (shift scale : FVec Ideal S8x1x2048 .f32) (w : FVec Ideal S2048x14336 .f32) : FVec Ideal S8x32x14336 .f32 :=
  Host.dotGeneral dot_S8x32x2048_S2048x14336_S8x32x14336_2_0_01_1_n_n none (hidden x shift scale) w

/-- The left factor at an index. -/
theorem hidden_at (x : FVec Ideal S8x32x2048 .f32) (shift scale : FVec Ideal S8x1x2048 .f32) (b : Fin 8) (r : Fin 32) (k : Fin 2048) :
    hidden x shift scale (ix3 b r k) = Rows.norm (fun l => x (ix3 b r l)) k * (1 + scale (ix3 b 0 k)) + shift (ix3 b 0 k) := by
  pointwise [hidden, centred, rowMean, Rows.norm, Rows.mean]

/-- The result at an index. -/
theorem ref_at (x : FVec Ideal S8x32x2048 .f32) (shift scale : FVec Ideal S8x1x2048 .f32) (w : FVec Ideal S2048x14336 .f32)
    (b : Fin 8) (r : Fin 32) (k : Fin 14336) :
    REF x shift scale w (ix3 b r k) = ∑ l : Fin 2048, hidden x shift scale (ix3 b r l) * w (ix2 l k) := by
  pointwise [REF]

end Reference

end Cert.Sample

namespace Cert.Kernel4Ideal.Value

open Cert.Kernel4Ideal Cert.Kernel4Ideal.Gen Cert.Sample

variable (m : (ℓ : Loc nD τ sig) → Buf (Elt Ideal) ℓ)

/-- Which block of its array each window holds at a grid point. -/
theorem idx : ∀ t : Fin cfg0.N, win0_0.index t = ![0, 0, 0] ∧ win0_1.index t = ![0, 0, 0]
    ∧ win0_2.index t = ![0, 0, 0] ∧ win0_3.index t = ![0, t.val % 14] ∧ win0_4.index t = ![0, 0, t.val % 14] :=
  (by decide +kernel : ∀ t : Fin grid0.N, _)

/-- The normalized block at a row and lane. -/
theorem pay1_at (x0 sc sh : Vec Ideal S1x256x2048 .f32) (r : Fin 256) (k : Fin 2048) :
    k0_pay1 (F := Ideal) x0 sc sh (ix2 r k) = Rows.norm (fun l => x0 (ix3 0 r l)) k * (1 + sc (ix3 0 r k)) + sh (ix3 0 r k) := by
  pointwise [k0_pay1, Rows.norm, Rows.mean]

/-- The stored product at a row and column of the block. -/
theorem pay2_at (h : Vec Ideal S256x2048 .bf16) (w : Vec Ideal S2048x1024 .bf16) (b : Fin 1) (r : Fin 256) (k : Fin 1024) :
    k0_pay2 (F := Ideal) h w (ix3 b r k) = ∑ l : Fin 2048, h (ix2 r l) * w (ix2 l k) := by
  pointwise [k0_pay2]

/-- The scratch buffer after a point: the normalized block of the run's first point. -/
theorem held (c : Dev nD) (t : Fin cfg0.N) :
    (outsAt0 m c t.val t.isLt).2 = (fun s : Fin cfg0.N => k0_pay1 (F := Ideal) (iblk m c 0 s) (iblk m c 2 s) (iblk m c 1 s))
      ⟨14 * (t.val / 14), Pipeline.run_start_lt t⟩ :=
  Pipeline.eq_of_write_hold (fun n h => (outsAt0 m c n h).2) 14
    (fun s : Fin cfg0.N => k0_pay1 (F := Ideal) (iblk m c 0 s) (iblk m c 2 s) (iblk m c 1 s))
    (fun t h => by
      rw [outsAt0_A m c t h]; frame_out)
    (fun t h => by rw [outsAt0_B m c t h]; rfl) t

/-- The output block after a point: the scratch buffer's block times the point's slab of the matrix. -/
theorem stored (c : Dev nD) (t : Fin cfg0.N) :
    (outsAt0 m c t.val t.isLt).1 = k0_pay2 (F := Ideal) (outsAt0 m c t.val t.isLt).2 (iblk m c 3 t) := by
  by_cases h : t.val % 14 = 0
  · rw [outsAt0_A m c t h]; frame_out
  · rw [outsAt0_B m c t h]; frame_out
    exact congrArg (fun z => k0_pay2 (F := Ideal) z (iblk m c 3 t)) ((Memref.isWhole_whole cc0_scratch0).read_unread _)

/-- The sample's rows end to end, as the kernel reads them. -/
theorem host_x (c : Dev nD) : StableHlo.after [hostOps0].flatten (fun b => m (c, b)) (Proc.tc.devRef main_v4)
    = shapeCast S1x256x2048 (m ((c : Thread nD τ).loc main_arg0) : FVec Ideal S8x32x2048 .f32) shapeCasts_S8x32x2048_S1x256x2048 := by
  simp only [hostOps0, List.flatten_cons, List.flatten_nil, List.append_nil, List.cons_append, List.nil_append]
  after_results <;> rfl

/-- Every row's shift, as the kernel reads it. -/
theorem host_shift (c : Dev nD) : StableHlo.after [hostOps0].flatten (fun b => m (c, b)) (Proc.tc.devRef main_v1)
    = shapeCast S1x256x2048 (broadcastInDim S8x32x2048 ![0, 1, 2] bcast_S8x1x2048_S8x32x2048_0_1_2
        (m ((c : Thread nD τ).loc main_arg1) : FVec Ideal S8x1x2048 .f32)) shapeCasts_S8x32x2048_S1x256x2048 := by
  simp only [hostOps0, List.flatten_cons, List.flatten_nil, List.append_nil, List.cons_append, List.nil_append]
  after_results <;> rfl

/-- Every row's scale, as the kernel reads it. -/
theorem host_scale (c : Dev nD) : StableHlo.after [hostOps0].flatten (fun b => m (c, b)) (Proc.tc.devRef main_v3)
    = shapeCast S1x256x2048 (broadcastInDim S8x32x2048 ![0, 1, 2] bcast_S8x1x2048_S8x32x2048_0_1_2
        (m ((c : Thread nD τ).loc main_arg2) : FVec Ideal S8x1x2048 .f32)) shapeCasts_S8x32x2048_S1x256x2048 := by
  simp only [hostOps0, List.flatten_cons, List.flatten_nil, List.append_nil, List.cons_append, List.nil_append]
  after_results <;> rfl

/-- Rows end to end at an index. -/
theorem rows_at (a : FVec Ideal S8x32x2048 .f32) (h : S8x32x2048.ShapeCasts S1x256x2048) (r : Fin 256) (l : Fin 2048) :
    shapeCast S1x256x2048 a h (ix3 0 r l) = a (ix3 ⟨r.val / 32, by omega⟩ ⟨r.val % 32, by omega⟩ l) := by
  pointwise

/-- One row per sequence, repeated for its rows and laid end to end, at an index. -/
theorem rep_at (a : FVec Ideal S8x1x2048 .f32) (h : S8x32x2048.ShapeCasts S1x256x2048) (r : Fin 256) (l : Fin 2048) :
    shapeCast S1x256x2048 (broadcastInDim S8x32x2048 ![0, 1, 2] bcast_S8x1x2048_S8x32x2048_0_1_2 a) h (ix3 0 r l)
      = a (ix3 ⟨r.val / 32, by omega⟩ 0 l) := by
  pointwise

/-- The sample's rows end to end. -/
def flat (a : FVec Ideal S8x32x14336 .f32) : FVec Ideal S1x256x14336 .f32 := fun i =>
  a (ix3 (⟨(i 1).val / 32, Nat.div_lt_of_lt_mul (i 1).isLt⟩ : Fin 8) (⟨(i 1).val % 32, Nat.mod_lt _ (by decide)⟩ : Fin 32) (i 2))

/-- The result array after the run is the reference's, its rows end to end. -/
theorem final (c : Dev nD) : (dats m 0 c).arrAt 4 cfg0.N
    = flat (REF (m ((c : Thread nD τ).loc main_arg0)) (m ((c : Thread nD τ).loc main_arg1)) (m ((c : Thread nD τ).loc main_arg2))
        (m ((c : Thread nD τ).loc main_arg3))) := by
  refine (dats m 0 c).arrAt_eq_of_covers 4 _ (by decide +kernel) fun t hf y => ?_
  blk_simp
  rw [after0_4, stored, held]
  dsimp only
  obtain ⟨b, r, k, rfl⟩ : ∃ (b : Fin 1) (r : Fin 256) (k : Fin 1024), y = ix3 b r k := ⟨y 0, y 1, y 2, eq_ix3 y⟩
  have ht : t.val < 14 := lt_of_lt_of_eq t.isLt N_0
  have hs : 14 * (t.val / 14) < 14 := by omega
  have i0 := idx ⟨14 * (t.val / 14), Pipeline.run_start_lt t⟩
  have hp : (((View.whole main_v6).slice (win0_4.rect t)).emb (ix3 b r k) : S1x256x14336.Idx)
      = ix3 (0 : Fin 1) r (⟨t.val % 14 * 1024 + k.val, by omega⟩ : Fin 14336) := by
    blk_ext [idx t]
  have h0 : ∀ l : Fin 2048, (iblk m c 0 ⟨14 * (t.val / 14), Pipeline.run_start_lt t⟩ : FVec Ideal S1x256x2048 .f32) (ix3 0 r l)
      = (m ((c : Thread nD τ).loc main_arg0) : FVec Ideal S8x32x2048 .f32) (ix3 ⟨r.val / 32, by omega⟩ ⟨r.val % 32, by omega⟩ l) := fun l => by
    have e : (((win0_0.blk ⟨14 * (t.val / 14), Pipeline.run_start_lt t⟩).view.emb (ix3 0 r l)) : S1x256x2048.Idx) = ix3 (0 : Fin 1) r l := by
      blk_ext [i0]
    exact (congrFun (host_x m c) _).trans ((congrArg _ e).trans (rows_at _ _ r l))
  have h1 : ∀ l : Fin 2048, (iblk m c 1 ⟨14 * (t.val / 14), Pipeline.run_start_lt t⟩ : FVec Ideal S1x256x2048 .f32) (ix3 0 r l)
      = (m ((c : Thread nD τ).loc main_arg1) : FVec Ideal S8x1x2048 .f32) (ix3 ⟨r.val / 32, by omega⟩ 0 l) := fun l => by
    have e : (((win0_1.blk ⟨14 * (t.val / 14), Pipeline.run_start_lt t⟩).view.emb (ix3 0 r l)) : S1x256x2048.Idx) = ix3 (0 : Fin 1) r l := by
      blk_ext [i0]
    exact (congrFun (host_shift m c) _).trans ((congrArg _ e).trans (rep_at _ _ r l))
  have h2 : ∀ l : Fin 2048, (iblk m c 2 ⟨14 * (t.val / 14), Pipeline.run_start_lt t⟩ : FVec Ideal S1x256x2048 .f32) (ix3 0 r l)
      = (m ((c : Thread nD τ).loc main_arg2) : FVec Ideal S8x1x2048 .f32) (ix3 ⟨r.val / 32, by omega⟩ 0 l) := fun l => by
    have e : (((win0_2.blk ⟨14 * (t.val / 14), Pipeline.run_start_lt t⟩).view.emb (ix3 0 r l)) : S1x256x2048.Idx) = ix3 (0 : Fin 1) r l := by
      blk_ext [i0]
    exact (congrFun (host_scale m c) _).trans ((congrArg _ e).trans (rep_at _ _ r l))
  have h3 : ∀ l : Fin 2048, (iblk m c 3 t : FVec Ideal S2048x1024 .bf16) (ix2 l k)
      = (m ((c : Thread nD τ).loc main_arg3) : FVec Ideal S2048x14336 .f32) (ix2 l ⟨t.val % 14 * 1024 + k.val, by omega⟩) := fun l => by
    blk_point [iblk, V, idx t]
  refine (pay2_at _ _ b r k).trans ?_
  refine Eq.trans ?_ (congrArg _ hp.symm)
  refine Eq.trans ?_ (ref_at _ _ _ _ ⟨r.val / 32, by omega⟩ ⟨r.val % 32, by omega⟩ ⟨t.val % 14 * 1024 + k.val, by omega⟩).symm
  refine Finset.sum_congr rfl fun l _ => congrArg₂ (fun a b : EReal => a * b) ?_ (h3 l)
  refine (pay1_at _ _ _ r l).trans (Eq.trans ?_ (hidden_at _ _ _ _ _ _).symm)
  refine congrArg₂ (fun a b : EReal => a + b) (congrArg₂ (fun a b : EReal => a * b) ?_ (congrArg (fun b : EReal => 1 + b) (h2 l))) (h1 l)
  exact congrArg (fun f => Rows.norm f l) (funext fun a => h0 a)

/-- Cut back in its sequences, the result is the reference's. -/
theorem unflat (a : FVec Ideal S8x32x14336 .f32) (h : S1x256x14336.ShapeCasts S8x32x14336) : shapeCast S8x32x14336 (flat a) h = a := by
  funext i
  obtain ⟨b, r, k, rfl⟩ : ∃ (b : Fin 8) (r : Fin 32) (k : Fin 14336), i = ix3 b r k := ⟨i 0, i 1, i 2, eq_ix3 i⟩
  refine Eq.trans (b := flat a (ix3 0 ⟨b.val * 32 + r.val, by omega⟩ k)) ?_ (congrArg a ?_)
  · pointwise
  · refine congrArg₂ (fun x y => ix3 x y k) (Fin.ext ?_) (Fin.ext ?_)
    · show (b.val * 32 + r.val) / 32 = b.val
      omega
    · show (b.val * 32 + r.val) % 32 = r.val
      omega

end Cert.Kernel4Ideal.Value

end
-- ==== Proof.Calls.lean ====
/- The value claims of the two projections and of the mixing call: the two runs of each set side by side. -/
module

public import proofs.«01_k».proof.Defs
public import proofs.«01_k».proof.Proof.Proj
public import proofs.«01_k».proof.Proof.Kept
public import proofs.«01_k».proof.Proof.Mix
public import proofs.«01_k».proof.Proof.Sample
public import proofs.«01_k».proof.Proof.Gen.Reference2Ideal
public import proofs.«01_k».proof.Proof.Gen.Reference3Ideal
public import proofs.«01_k».proof.Proof.Gen.Reference4Ideal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The projection kernel leaves the reference's projection, and its last keys and values cut into heads. -/
theorem proj_algebraic : Cert.algebraic_Kernel2Ideal_Reference2Ideal (hKernel2Ideal := Cert.Kernel2Ideal.Gen.facts) (hReference2Ideal := Cert.Reference2Ideal.Gen.facts) := by
  pair_intro
  · run_from Cert.Kernel2Ideal.Value.run m g
  · run_from Cert.Reference2Ideal.Value.run m' g'
    · exact (Cert.Kernel2Ideal.Value.final m c).symm
    · rw [show Cert.Kernel2Ideal.Value.reg_main_v1 m c = _ from Cert.Kernel2Ideal.Value.final m c]
      exact congrArg _ (Cert.Proj.kept_keys _ _ _ _ _ _).symm
    · rw [show Cert.Kernel2Ideal.Value.reg_main_v1 m c = _ from Cert.Kernel2Ideal.Value.final m c]
      exact congrArg _ (Cert.Proj.kept_values _ _ _ _ _ _).symm

set_option maxHeartbeats 1600000 in
/-- The mixing kernel leaves the reference's residual stream and its normalized, shifted and scaled copy. -/
theorem mix_algebraic : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · run_from Cert.Reference3Ideal.Value.run m' g'
    · obtain ⟨h0, h1, h2, h3, h4, h5, h6, h7, h8⟩ := hagree c
      rw [Cert.Mix.ref9_eq, h0, h1, h2, h3, h4, h7, h8]
      exact (Cert.Kernel3Ideal.Value.final9 m c).symm
    · obtain ⟨h0, h1, h2, h3, h4, h5, h6, h7, h8⟩ := hagree c
      rw [Cert.Mix.ref10_eq, h0, h1, h2, h3, h4, h5, h6, h7, h8]
      exact (Cert.Kernel3Ideal.Value.final10 m c).symm

set_option maxHeartbeats 1600000 in
/-- The projection kernel on the sample leaves the reference's keys and values, cut into heads. -/
theorem sample_algebraic : Cert.algebraic_Kernel4Ideal_Reference4Ideal (hKernel4Ideal := Cert.Kernel4Ideal.Gen.facts) (hReference4Ideal := Cert.Reference4Ideal.Gen.facts) := by
  pair_intro
  · run_from Cert.Kernel4Ideal.Value.run m g
  · run_from Cert.Reference4Ideal.Value.run m' g'
    all_goals
      rw [show Cert.Kernel4Ideal.Value.reg_main_v6 m c = _ from Cert.Kernel4Ideal.Value.final m c, Cert.Kernel4Ideal.Value.unflat]
      rfl

end Cert.Proof

end
-- ==== Proof.PeerSlab.lean ====
/- The experts' call, one slab of 128 experts: the weight of every expert at every token, a sum over the heads that picked
   it, times the gelu of its activation. -/
module

public import proofs.«01_k».proof.Proof.Gen.Kernel5Ideal.Value
public import Idealize.ShloMosaic.Lib.Pipeline.ValueKit
public import Idealize.ShloMosaic.Lib.Pipeline.ValueKit.Held
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Peer

/-- What a head adds to an expert's weight: the product of the two keys' scales where the second key's rank is below the first key's count. -/
def wt (r q l e : EReal) : EReal := Scalar.select (Ideal.cmp .olt r l) (q * e) 0

/-- The gelu: half the number, times one plus the error function of the number over the root of two. -/
def gelu (x : EReal) : EReal :=
  Ideal.ofBits .f32 0x3F000000#32 * x * (1 + Ideal.erf (x * Ideal.ofBits .f32 0x3F3504F3#32))

end Cert.Peer

namespace Cert.Kernel5Ideal.Value

open Cert.Kernel5Ideal Cert.Kernel5Ideal.Gen Cert.Peer

/-- A row of one number per token, repeated for the 128 experts of a slab. -/
def rep (l : Vec Ideal S1x1x1x512 .f32) : FVec Ideal S8x16x512 .bf16 :=
  broadcastTo S8x16x512 (shapeCast S1x16x512 (truncf .bf16 (broadcastTo S16x512 (shapeCast S1x512 (shapeCast S1x512 l
    shapeCasts_S1x1x1x512_S1x512) shapeCasts_S1x512_S1x512) broadcasts_S1x512_S16x512) bitsLt_bf16_f32) shapeCasts_S16x512_S1x16x512)
    broadcasts_S1x16x512_S8x16x512

/-- The 128 experts' numbers, as 8 groups of 16. -/
def grp (r : Vec Ideal S1x1x128x512 .bf16) : FVec Ideal S8x16x512 .bf16 :=
  shapeCast S8x16x512 (shapeCast S128x512 r shapeCasts_S1x1x128x512_S128x512) shapeCasts_S128x512_S8x16x512

/-- One head's part of the weights of a slab. -/
def head (l e : Vec Ideal S1x1x1x512 .f32) (r q : Vec Ideal S1x1x128x512 .bf16) : FVec Ideal S8x16x512 .bf16 :=
  select (cmpf .olt (grp r) (rep l)) (mulf (grp q) (rep e)) (broadcast S8x16x512 (Scalar.ofBits .bf16 0x0000#16))

/-- The weights of a slab: the eight heads' parts added. -/
def weights (L E : Fin 8 → Vec Ideal S1x1x1x512 .f32) (R Q : Fin 8 → Vec Ideal S1x1x128x512 .bf16) : FVec Ideal S8x16x512 .bf16 :=
  addf (addf (addf (addf (addf (addf (addf (head (L 0) (E 0) (R 0) (Q 0)) (head (L 1) (E 1) (R 1) (Q 1))) (head (L 2) (E 2) (R 2) (Q 2)))
    (head (L 3) (E 3) (R 3) (Q 3))) (head (L 4) (E 4) (R 4) (Q 4))) (head (L 5) (E 5) (R 5) (Q 5))) (head (L 6) (E 6) (R 6) (Q 6)))
    (head (L 7) (E 7) (R 7) (Q 7))

/-- A slab: the weights times the gelu of the activations. -/
def slab (w : FVec Ideal S8x16x512 .bf16) (a : FVec Ideal S128x512 .f32) : FVec Ideal S128x512 .bf16 :=
  shapeCast S128x512 (truncf .bf16 (mulf (extf .f32 (shapeCast S128x512 w shapeCasts_S8x16x512_S128x512) bitsLt_bf16_f32)
    (mulf (mulf (broadcast S128x512 (Scalar.ofBits .f32 0x3F000000#32)) a)
      (addf (broadcast S128x512 (Scalar.ofBits .f32 0x3F800000#32)) (erf (mulf a (broadcast S128x512 (Scalar.ofBits .f32 0x3F3504F3#32)))))))
    bitsLt_bf16_f32) shapeCasts_S128x512_S128x512

/-- A repeated row at an index. -/
theorem rep_at (l : Vec Ideal S1x1x1x512 .f32) (i : Fin 8) (j : Fin 16) (t : Fin 512) : rep l (ix3 i j t) = l (ix4 0 0 0 t) := by
  unfold rep
  pointwise

/-- A group's number at an index. -/
theorem grp_at (r : Vec Ideal S1x1x128x512 .bf16) (i : Fin 8) (j : Fin 16) (t : Fin 512) :
    grp r (ix3 i j t) = r (ix4 0 0 ⟨i.val * 16 + j.val, by omega⟩ t) := by
  unfold grp
  pointwise

/-- One head's part at an index. -/
theorem head_at (l e : Vec Ideal S1x1x1x512 .f32) (r q : Vec Ideal S1x1x128x512 .bf16) (i : Fin 8) (j : Fin 16) (t : Fin 512) :
    head l e r q (ix3 i j t) = wt (r (ix4 0 0 ⟨i.val * 16 + j.val, by omega⟩ t)) (q (ix4 0 0 ⟨i.val * 16 + j.val, by omega⟩ t))
      (l (ix4 0 0 0 t)) (e (ix4 0 0 0 t)) := by
  rw [← grp_at r, ← grp_at q, ← rep_at l i j t, ← rep_at e i j t]
  unfold head wt
  pointwise

/-- The weights of a slab at an index, as a sum over the heads. -/
theorem weights_at (L E : Fin 8 → Vec Ideal S1x1x1x512 .f32) (R Q : Fin 8 → Vec Ideal S1x1x128x512 .bf16) (i : Fin 8) (j : Fin 16) (t : Fin 512) :
    weights L E R Q (ix3 i j t) = ∑ h : Fin 8, wt (R h (ix4 0 0 ⟨i.val * 16 + j.val, by omega⟩ t)) (Q h (ix4 0 0 ⟨i.val * 16 + j.val, by omega⟩ t))
      (L h (ix4 0 0 0 t)) (E h (ix4 0 0 0 t)) := by
  rw [Fin.sum_univ_eight]
  iterate 8 rw [← head_at]
  rfl

/-- A slab at an index. -/
theorem slab_at (w : FVec Ideal S8x16x512 .bf16) (a : FVec Ideal S128x512 .f32) (b : Fin 128) (t : Fin 512) :
    slab w a (ix2 b t) = w (ix3 ⟨b.val / 16, by omega⟩ ⟨b.val % 16, by omega⟩ t) * gelu (a (ix2 b t)) := by
  unfold slab gelu
  pointwise
  rfl

end Cert.Kernel5Ideal.Value

end
-- ==== Proof.PeerStep.lean ====
/- The experts' call, one grid point: the 1024 experts of the point's block as eight slabs of 128, and the sum that the
   point adds to the accumulator. -/
module

public import proofs.«01_k».proof.Proof.Gen.Kernel5Ideal.Value
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.PeerSlab

@[expose] public section

set_option maxRecDepth 16384

noncomputable section

open Idealize.ShloMosaic Idealize.ShloMosaic.TcCoe Idealize.SL.Sem

namespace Cert.Kernel5Ideal.Value

open Cert.Kernel5Ideal Cert.Kernel5Ideal.Gen Cert.Peer

variable (m : (ℓ : Loc nD τ sig) → Buf (Elt Ideal) ℓ)

/-- The rows of a slab's tokens lie in the window. -/
theorem inb_row (h al : Fin 8) : ∀ a : Fin 4, (![0, h.val, al.val, 0] : Fin 4 → Nat) a + (![1, 1, 1, 512] : Fin 4 → Nat) a ≤ (![1, 8, 8, 512] : Fin 4 → Nat) a := by
  revert h al; decide

/-- A head's slab lies in the window. -/
theorem inb_slab (h : Fin 8) : ∀ a : Fin 4, (![0, h.val, 0, 0] : Fin 4 → Nat) a + (![1, 1, 128, 512] : Fin 4 → Nat) a ≤ (![1, 8, 128, 512] : Fin 4 → Nat) a := by
  revert h; decide

/-- A chunk of 512 experts lies in the window. -/
theorem inb_chunk (ch : Fin 2) : ∀ a : Fin 2, (![512 * ch.val, 0] : Fin 2 → Nat) a + (![512, 2048] : Fin 2 → Nat) a ≤ (![1024, 2048] : Fin 2 → Nat) a := by
  revert ch; decide

/-- A quarter of a chunk lies in the chunk. -/
theorem inb_quarter (q : Fin 4) : S512x512.Slices ![128 * q.val, 0] S128x512 := by
  revert q; decide

/-- One row of head `h` and slab `al`. -/
def rowOf (V : Vec Ideal S1x8x8x512 .f32) (h al : Fin 8) : Vec Ideal S1x1x1x512 .f32 :=
  View.ld V (Rect.unit ![0, h.val, al.val, 0] ![1, 1, 1, 512] (inb_row h al))

/-- The numbers of head `h`. -/
def headOf (V : Vec Ideal S1x8x128x512 .bf16) (h : Fin 8) : Vec Ideal S1x1x128x512 .bf16 :=
  View.ld V (Rect.unit ![0, h.val, 0, 0] ![1, 1, 128, 512] (inb_slab h))

/-- The activations of one slab: a quarter of a chunk of 512 experts. -/
def acts (U : Vec Ideal S1024x2048 .bf16) (H : Vec Ideal S1x512x2048 .bf16) (ch : Fin 2) (q : Fin 4) : FVec Ideal S128x512 .f32 :=
  extractStridedSlice S128x512 ![128 * q.val, 0] (k0_pay4 (View.ld U (Rect.unit ![512 * ch.val, 0] ![512, 2048] (inb_chunk ch))) H) (inb_quarter q)

/-- The slab `4 ch + q` from the windows. -/
def slabOf (H : Vec Ideal S1x512x2048 .bf16) (U : Vec Ideal S1024x2048 .bf16) (L E : Vec Ideal S1x8x8x512 .f32) (R Q : Vec Ideal S1x8x128x512 .bf16)
    (al : Fin 8) (ch : Fin 2) (q : Fin 4) : FVec Ideal S128x512 .bf16 :=
  slab (weights (fun h => rowOf L h al) (fun h => rowOf E h al) (headOf R) (headOf Q)) (acts U H ch q)

/-- The weight of expert `r` of the block at token `t`, times the gelu of its activation. -/
def pent (H : Vec Ideal S1x512x2048 .bf16) (U : Vec Ideal S1024x2048 .bf16) (L E : Vec Ideal S1x8x8x512 .f32) (R Q : Vec Ideal S1x8x128x512 .bf16)
    (r : Fin 1024) (t : Fin 512) : EReal :=
  (∑ h : Fin 8, wt (R (ix4 0 h ⟨r.val % 128, by omega⟩ t)) (Q (ix4 0 h ⟨r.val % 128, by omega⟩ t))
    (L (ix4 0 h ⟨r.val / 128, by omega⟩ t)) (E (ix4 0 h ⟨r.val / 128, by omega⟩ t)))
    * gelu (∑ k : Fin 2048, U (ix2 r k) * H (ix3 0 t k))

/-- The block's experts at the block's tokens. -/
def pval (H : Vec Ideal S1x512x2048 .bf16) (U : Vec Ideal S1024x2048 .bf16) (L E : Vec Ideal S1x8x8x512 .f32) (R Q : Vec Ideal S1x8x128x512 .bf16) :
    FVec Ideal S1024x512 .bf16 := fun y => pent H U L E R Q (y 0) (y 1)

/-- A slab at an index. -/
theorem slabOf_at (H : Vec Ideal S1x512x2048 .bf16) (U : Vec Ideal S1024x2048 .bf16) (L E : Vec Ideal S1x8x8x512 .f32) (R Q : Vec Ideal S1x8x128x512 .bf16)
    (al : Fin 8) (ch : Fin 2) (q : Fin 4) (hal : al.val = 4 * ch.val + q.val) (r : Fin 1024) (t : Fin 512) (x : S128x512.Idx)
    (h0 : r.val = 128 * al.val + (x 0).val) (h1 : t.val = (x 1).val) :
    slabOf H U L E R Q al ch q x = pent H U L E R Q r t := by
  obtain ⟨b, t', rfl⟩ : ∃ (b : Fin 128) (t' : Fin 512), x = ix2 b t' := ⟨_, _, eq_ix2 x⟩
  obtain rfl : t = t' := Fin.ext h1
  replace h0 : r.val = 128 * al.val + b.val := h0
  have e1 : (⟨r.val / 128, by omega⟩ : Fin 8) = al := Fin.ext (by show r.val / 128 = _; omega)
  have e2 : (⟨r.val % 128, by omega⟩ : Fin 128) = b := Fin.ext (by show r.val % 128 = _; omega)
  have eb : (⟨b.val / 16 * 16 + b.val % 16, by omega⟩ : Fin 128) = b := Fin.ext (by show b.val / 16 * 16 + b.val % 16 = _; omega)
  unfold slabOf pent
  rw [slab_at, weights_at, e1, e2]
  refine congrArg₂ (· * ·) (Finset.sum_congr rfl fun h _ => ?_) (congrArg gelu ?_)
  · have hr : ∀ V : Vec Ideal S1x8x128x512 .bf16, headOf V h (ix4 0 0 ⟨b.val / 16 * 16 + b.val % 16, by omega⟩ t) = V (ix4 0 h b t) := fun V => by
      rw [eb]
      exact View.ld_unit_apply_of _ _ _ _ _ _ (by intro a; fin_cases a <;> first | rfl | exact (Nat.add_zero _).symm | exact (Nat.zero_add _).symm)
    have hl : ∀ V : Vec Ideal S1x8x8x512 .f32, rowOf V h al (ix4 0 0 0 t) = V (ix4 0 h al t) := fun V =>
      View.ld_unit_apply_of _ _ _ _ _ _ (by intro a; fin_cases a <;> first | rfl | exact (Nat.add_zero _).symm | exact (Nat.zero_add _).symm)
    exact congr (congr (congr (congrArg wt (hr R)) (hr Q)) (hl L)) (hl E)
  · have ha : ∀ (A : FVec Ideal S512x512 .f32), extractStridedSlice S128x512 ![128 * q.val, 0] A (inb_quarter q) (ix2 b t)
        = A (ix2 ⟨128 * q.val + b.val, by omega⟩ t) := fun A => by pointwise
    have hp : ∀ (X : Vec Ideal S512x2048 .bf16) (r : Fin 512), k0_pay4 X H (ix2 r t) = ∑ k : Fin 2048, X (ix2 r k) * H (ix3 0 t k) := fun X r => by
      pointwise [k0_pay4]
    unfold acts
    rw [ha, hp]
    refine Finset.sum_congr rfl fun k _ => congrArg (· * _) ?_
    refine View.ld_unit_apply_of _ _ _ _ _ _ (fun a => ?_)
    fin_cases a
    · show r.val = 512 * ch.val + (128 * q.val + b.val)
      omega
    · exact (Nat.zero_add _).symm

/-- A whole box puts a row at the same row. -/
theorem box0 (r : Fin 1024) (tk : Fin 512) (inb) : r.val = ((Rect.unit (s := S1024x512) ![0, 0] ![1024, 512] inb).idx (ix2 r tk) 0).val :=
  (Nat.zero_add _).symm.trans (Rect.idx_unit_val (s := S1024x512) ![0, 0] ![1024, 512] inb (ix2 r tk) 0).symm

/-- A whole box puts a column at the same column. -/
theorem box1 (r : Fin 1024) (tk : Fin 512) (inb) : tk.val = ((Rect.unit (s := S1024x512) ![0, 0] ![1024, 512] inb).idx (ix2 r tk) 1).val :=
  (Nat.zero_add _).symm.trans (Rect.idx_unit_val (s := S1024x512) ![0, 0] ![1024, 512] inb (ix2 r tk) 1).symm

set_option maxHeartbeats 4000000 in
/-- The accumulator after the first point of a row of points: the block's experts added to zero. -/
theorem acc_A (c : Dev nD) (t : Fin cfg0.N) (h0 : t.val % 16 = 0) (h1 : ¬t.val % 16 = 15) :
    (outsAt0 m c t.val t.isLt).2 = k0_pay1 k0_pay3 (iblk m c 2 t)
      (pval (iblk m c 0 t) (iblk m c 1 t) (iblk m c 3 t) (iblk m c 4 t) (iblk m c 5 t) (iblk m c 6 t)) := by
  rw [outsAt0_A m c t h0 h1]; frame_out
  refine congrArg (k0_pay1 _ _) (funext fun y => ?_)
  obtain ⟨r, tk, rfl⟩ : ∃ (r : Fin 1024) (tk : Fin 512), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

set_option maxHeartbeats 4000000 in
/-- The accumulator after a point that is neither the first nor the last of its row of points: the accumulator before it plus the block's experts. -/
theorem acc_B (c : Dev nD) (t : Fin cfg0.N) (h0 : ¬t.val % 16 = 0) (h1 : ¬t.val % 16 = 15) :
    (outsAt0 m c t.val t.isLt).2 = k0_pay1 (outsAt0 m c (t.val - 1) (Nat.lt_of_le_of_lt (Nat.sub_le _ _) t.isLt)).2 (iblk m c 2 t)
      (pval (iblk m c 0 t) (iblk m c 1 t) (iblk m c 3 t) (iblk m c 4 t) (iblk m c 5 t) (iblk m c 6 t)) := by
  rw [outsAt0_B m c t h0 h1]; frame_out
  rw [(Memref.isWhole_whole cc0_scratch0).read_unread]
  refine congrArg (k0_pay1 _ _) (funext fun y => ?_)
  obtain ⟨r, tk, rfl⟩ : ∃ (r : Fin 1024) (tk : Fin 512), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

set_option maxHeartbeats 4000000 in
/-- The accumulator after the last point of a row of points: the accumulator before it plus the block's experts. -/
theorem acc_C (c : Dev nD) (t : Fin cfg0.N) (h0 : ¬t.val % 16 = 0) (h1 : t.val % 16 = 15) :
    (outsAt0 m c t.val t.isLt).2 = k0_pay1 (outsAt0 m c (t.val - 1) (Nat.lt_of_le_of_lt (Nat.sub_le _ _) t.isLt)).2 (iblk m c 2 t)
      (pval (iblk m c 0 t) (iblk m c 1 t) (iblk m c 3 t) (iblk m c 4 t) (iblk m c 5 t) (iblk m c 6 t)) := by
  rw [outsAt0_C m c t h0 h1]; frame_out
  rw [(Memref.isWhole_whole cc0_scratch0).read_unread]
  refine congrArg (k0_pay1 _ _) (funext fun y => ?_)
  obtain ⟨r, tk, rfl⟩ : ∃ (r : Fin 1024) (tk : Fin 512), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

set_option maxHeartbeats 4000000 in
/-- The output block after the last point of a row of points: the final layer norm of the accumulator. -/
theorem out_C (c : Dev nD) (t : Fin cfg0.N) (h0 : ¬t.val % 16 = 0) (h1 : t.val % 16 = 15) :
    (outsAt0 m c t.val t.isLt).1 = k0_pay2 (outsAt0 m c t.val t.isLt).2 (iblk m c 7 t) (iblk m c 8 t) (iblk m c 9 t) (iblk m c 10 t) := by
  rw [acc_C m c t h0 h1, outsAt0_C m c t h0 h1]; frame_out
  rw [(Memref.isWhole_whole cc0_scratch0).read_unread]
  refine congrArg (fun w => k0_pay2 (k0_pay1 _ _ w) _ _ _ _) (funext fun y => ?_)
  obtain ⟨r, tk, rfl⟩ : ∃ (r : Fin 1024) (tk : Fin 512), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

end Cert.Kernel5Ideal.Value

end
-- ==== Proof.PeerRef.lean ====
/- The experts' call: its reference, in pieces and at an index. -/
module

public import proofs.«01_k».proof.Proof.Gen.Reference5Ideal.Run
public import Idealize.ShloMosaic.Lib.Pipeline.ValueKit
public import Idealize.ShloMosaic.Lib.Pointwise
public import Idealize.ShloMosaic.Lib.Claim
public import proofs.«01_k».proof.Proof.Rows
public import proofs.«01_k».proof.Proof.PeerSlab

@[expose] public section

set_option maxRecDepth 16384

noncomputable section

open Idealize.ShloMosaic Idealize.ShloMosaic.TcCoe Idealize.SL.Sem

namespace Cert.Peer

open Cert.Reference5Ideal Cert.Reference5Ideal.Gen

/-- Every head's weight of every pair of keys at every token. -/
def pairs (l e : FVec Ideal S4x8x128x8192 .f32) (r q : FVec Ideal S4x8x128x8192 .bf16) : FVec Ideal S4x8x128x128x8192 .f32 :=
  select (cmpf .olt
      (broadcastInDim S4x8x128x128x8192 ![0, 1, 2, 3, 4] bcast_S4x8x1x128x8192_S4x8x128x128x8192_0_1_2_3_4 (broadcastInDim S4x8x1x128x8192 ![0, 1, 3, 4] bcast_S4x8x128x8192_S4x8x1x128x8192_0_1_3_4 (extf .f32 r bitsLt_bf16_f32)))
      (broadcastInDim S4x8x128x128x8192 ![0, 1, 2, 3, 4] bcast_S4x8x128x1x8192_S4x8x128x128x8192_0_1_2_3_4 (broadcastInDim S4x8x128x1x8192 ![0, 1, 2, 4] bcast_S4x8x128x8192_S4x8x128x1x8192_0_1_2_4 l)))
    (mulf
      (broadcastInDim S4x8x128x128x8192 ![0, 1, 2, 3, 4] bcast_S4x8x128x1x8192_S4x8x128x128x8192_0_1_2_3_4 (broadcastInDim S4x8x128x1x8192 ![0, 1, 2, 4] bcast_S4x8x128x8192_S4x8x128x1x8192_0_1_2_4 e))
      (broadcastInDim S4x8x128x128x8192 ![0, 1, 2, 3, 4] bcast_S4x8x1x128x8192_S4x8x128x128x8192_0_1_2_3_4 (broadcastInDim S4x8x1x128x8192 ![0, 1, 3, 4] bcast_S4x8x128x8192_S4x8x1x128x8192_0_1_3_4 (extf .f32 q bitsLt_bf16_f32))))
    (broadcastInDim S4x8x128x128x8192 ![] bcast_S_S4x8x128x128x8192 (constant S_ .f32 0x00000000#32))

/-- The weight of every expert at every token: the heads' weights added. -/
def weight (l e : FVec Ideal S4x8x128x8192 .f32) (r q : FVec Ideal S4x8x128x8192 .bf16) : FVec Ideal S4x16384x8192 .f32 :=
  shapeCast S4x16384x8192 (Host.reduceAdd (pairs l e r q) (constant S_ .f32 0x00000000#32) reducesTo_S4x8x128x128x8192_S4x128x128x8192_d1 h_S_)
    shapeCasts_S4x128x128x8192_S4x16384x8192

/-- The activation of every expert at every token. -/
def activation (h2 : FVec Ideal S4x8192x2048 .bf16) (u : FVec Ideal S16384x2048 .f32) : FVec Ideal S4x16384x8192 .f32 :=
  transpose S4x16384x8192 [1, 0, 2] (Host.dotGeneral dot_S16384x2048_S4x8192x2048_S16384x4x8192_1_2_0_01_n_n none u (extf .f32 h2 bitsLt_bf16_f32))
    transposes_S16384x4x8192_S4x16384x8192_1_0_2

/-- The gelu of the activations. -/
def gelus (a : FVec Ideal S4x16384x8192 .f32) : FVec Ideal S4x16384x8192 .f32 :=
  mulf (mulf (broadcastInDim S4x16384x8192 ![] bcast_S_S4x16384x8192 (constant S_ .f32 0x3F000000#32)) a)
    (Host.erfc (mulf (Host.negf a) (broadcastInDim S4x16384x8192 ![] bcast_S_S4x16384x8192 (constant S_ .f32 0x3F3504F3#32))))

/-- What the experts add to the residual stream. -/
def ffn (p : FVec Ideal S4x16384x8192 .f32) (v : FVec Ideal S16384x2048 .f32) : FVec Ideal S4x8192x2048 .f32 :=
  Host.dotGeneral dot_S4x16384x8192_S16384x2048_S4x8192x2048_1_0_02_1_n_n none p v

/-- The residual stream: `ALPHA * x` plus the gated sum of the experts. -/
def stream (x : FVec Ideal S4x8192x2048 .f32) (gate : FVec Ideal S4x1x2048 .f32) (f : FVec Ideal S4x8192x2048 .f32) : FVec Ideal S4x8192x2048 .f32 :=
  addf (mulf (broadcastInDim S4x8192x2048 ![] bcast_S_S4x8192x2048 (constant S_ .f32 0x3F9837F0#32)) x)
    (mulf (broadcastInDim S4x8192x2048 ![0, 1, 2] bcast_S4x1x2048_S4x8192x2048_0_1_2 gate) f)

/-- The mean over the model axis, kept as a column. -/
def rowMean (v : FVec Ideal S4x8192x2048 .f32) : FVec Ideal S4x8192x1 .f32 :=
  Host.divf (broadcastInDim S4x8192x1 ![0, 1] bcast_S4x8192_S4x8192x1_0_1
      (Host.reduceAdd v (constant S_ .f32 0x00000000#32) reducesTo_S4x8192x2048_S4x8192_d2 h_S_))
    (broadcastInDim S4x8192x1 ![] bcast_S_S4x8192x1 (constant S_ .f32 0x45000000#32))

/-- A row minus its mean. -/
def centred (v : FVec Ideal S4x8192x2048 .f32) : FVec Ideal S4x8192x2048 .f32 :=
  subf v (broadcastInDim S4x8192x2048 ![0, 1, 2] bcast_S4x8192x1_S4x8192x2048_0_1_2 (rowMean v))

/-- A row normalized: centred, times the reciprocal root of its variance plus the small constant. -/
def normed (v : FVec Ideal S4x8192x2048 .f32) : FVec Ideal S4x8192x2048 .f32 :=
  mulf (centred v) (broadcastInDim S4x8192x2048 ![0, 1, 2] bcast_S4x8192x1_S4x8192x2048_0_1_2
    (Host.rsqrt (addf (rowMean (mulf (centred v) (centred v)))
      (broadcastInDim S4x8192x1 ![] bcast_S_S4x8192x1 (constant S_ .f32 0x3727C5AC#32)))))

/-- The reference's result: the residual stream after the affine layer norm. -/
def REF (h2 : FVec Ideal S4x8192x2048 .bf16) (u v : FVec Ideal S16384x2048 .f32) (l e : FVec Ideal S4x8x128x8192 .f32)
    (r q : FVec Ideal S4x8x128x8192 .bf16) (x : FVec Ideal S4x8192x2048 .f32) (gate : FVec Ideal S4x1x2048 .f32) (lg lb : FVec Ideal S2048 .f32) :
    FVec Ideal S4x8192x2048 .f32 :=
  addf (mulf (normed (stream x gate (ffn (mulf (weight l e r q) (gelus (activation h2 u))) v)))
      (broadcastInDim S4x8192x2048 ![0, 1, 2] bcast_S1x1x2048_S4x8192x2048_0_1_2 (broadcastInDim S1x1x2048 ![2] bcast_S2048_S1x1x2048_2 lg)))
    (broadcastInDim S4x8192x2048 ![0, 1, 2] bcast_S1x1x2048_S4x8192x2048_0_1_2 (broadcastInDim S1x1x2048 ![2] bcast_S2048_S1x1x2048_2 lb))

/-- The reference's composed term is `REF` of its arguments. -/
theorem ref_eq (m : (ℓ : Loc nD τ sig) → Buf (Elt Ideal) ℓ) (c : Dev nD) :
    Cert.Reference5Ideal.Value.res_main_v55 m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10)) := by
  unfold Cert.Reference5Ideal.Value.res_main_v55
  rfl

/-- An expert's weight at a token. -/
theorem weight_at (l e : FVec Ideal S4x8x128x8192 .f32) (r q : FVec Ideal S4x8x128x8192 .bf16) (b : Fin 4) (n : Fin 16384) (t : Fin 8192) :
    weight l e r q (ix3 b n t) = ∑ h : Fin 8, wt (r (ix4 b h ⟨n.val % 128, by omega⟩ t)) (q (ix4 b h ⟨n.val % 128, by omega⟩ t))
      (l (ix4 b h ⟨n.val / 128, by omega⟩ t)) (e (ix4 b h ⟨n.val / 128, by omega⟩ t)) := by
  unfold weight pairs wt
  pointwise
  exact Finset.sum_congr rfl fun h _ => if_congr Iff.rfl (mul_comm _ _) rfl

/-- An expert's activation at a token. -/
theorem activation_at (h2 : FVec Ideal S4x8192x2048 .bf16) (u : FVec Ideal S16384x2048 .f32) (b : Fin 4) (n : Fin 16384) (t : Fin 8192) :
    activation h2 u (ix3 b n t) = ∑ k : Fin 2048, u (ix2 n k) * h2 (ix3 b t k) := by
  unfold activation
  pointwise

/-- The gelu at an index: the complementary error function of the negated number is one plus the error function. -/
theorem gelus_at (a : FVec Ideal S4x16384x8192 .f32) (b : Fin 4) (n : Fin 16384) (t : Fin 8192) :
    gelus a (ix3 b n t) = gelu (a (ix3 b n t)) := by
  unfold gelus gelu
  pointwise
  rw [EReal.neg_mul, Ideal.erfc_neg]

/-- The experts' sum at an index. -/
theorem ffn_at (p : FVec Ideal S4x16384x8192 .f32) (v : FVec Ideal S16384x2048 .f32) (b : Fin 4) (t : Fin 8192) (k : Fin 2048) :
    ffn p v (ix3 b t k) = ∑ n : Fin 16384, p (ix3 b n t) * v (ix2 n k) := by
  unfold ffn
  pointwise

/-- The residual stream at an index. -/
theorem stream_at (x : FVec Ideal S4x8192x2048 .f32) (gate : FVec Ideal S4x1x2048 .f32) (f : FVec Ideal S4x8192x2048 .f32) (b : Fin 4) (t : Fin 8192) (k : Fin 2048) :
    stream x gate f (ix3 b t k) = Ideal.ofBits .f32 0x3F9837F0#32 * x (ix3 b t k) + gate (ix3 b 0 k) * f (ix3 b t k) := by
  pointwise [stream]

/-- The reference's normalization reads a row at a time. -/
theorem normed_at (v : FVec Ideal S4x8192x2048 .f32) (b : Fin 4) (r : Fin 8192) (k : Fin 2048) :
    normed v (ix3 b r k) = Rows.norm (fun l => v (ix3 b r l)) k := by
  pointwise [normed, centred, rowMean, Rows.norm, Rows.mean]

/-- A product at an index. -/
theorem mulf_at (p q : FVec Ideal S4x16384x8192 .f32) (b : Fin 4) (n : Fin 16384) (t : Fin 8192) :
    mulf p q (ix3 b n t) = p (ix3 b n t) * q (ix3 b n t) := by
  pointwise

/-- What expert `n` weighs at token `t`, times the gelu of its activation. -/
def ent (h2 : FVec Ideal S4x8192x2048 .bf16) (u : FVec Ideal S16384x2048 .f32) (l e : FVec Ideal S4x8x128x8192 .f32)
    (r q : FVec Ideal S4x8x128x8192 .bf16) (b : Fin 4) (n : Fin 16384) (t : Fin 8192) : EReal :=
  (∑ h : Fin 8, wt (r (ix4 b h ⟨n.val % 128, by omega⟩ t)) (q (ix4 b h ⟨n.val % 128, by omega⟩ t))
      (l (ix4 b h ⟨n.val / 128, by omega⟩ t)) (e (ix4 b h ⟨n.val / 128, by omega⟩ t)))
    * gelu (∑ k : Fin 2048, u (ix2 n k) * h2 (ix3 b t k))

/-- The reference's result at an index. -/
theorem ref_at (h2 : FVec Ideal S4x8192x2048 .bf16) (u v : FVec Ideal S16384x2048 .f32) (l e : FVec Ideal S4x8x128x8192 .f32)
    (r q : FVec Ideal S4x8x128x8192 .bf16) (x : FVec Ideal S4x8192x2048 .f32) (gate : FVec Ideal S4x1x2048 .f32) (lg lb : FVec Ideal S2048 .f32)
    (b : Fin 4) (t : Fin 8192) (k : Fin 2048) :
    REF h2 u v l e r q x gate lg lb (ix3 b t k)
      = Rows.norm (fun d => Ideal.ofBits .f32 0x3F9837F0#32 * x (ix3 b t d)
          + gate (ix3 b 0 d) * ∑ n : Fin 16384, v (ix2 n d) * ent h2 u l e r q b n t) k * lg (ix1 k) + lb (ix1 k) := by
  have hf : ∀ d : Fin 2048, ffn (mulf (weight l e r q) (gelus (activation h2 u))) v (ix3 b t d) = ∑ n : Fin 16384, v (ix2 n d) * ent h2 u l e r q b n t := fun d => by
    rw [ffn_at]
    refine Finset.sum_congr rfl fun n _ => ?_
    rw [mul_comm]
    exact congrArg _ ((mulf_at _ _ b n t).trans (congrArg₂ (· * ·) (weight_at l e r q b n t)
      ((gelus_at _ b n t).trans (congrArg gelu (activation_at h2 u b n t)))))
  have hs : (fun d => stream x gate (ffn (mulf (weight l e r q) (gelus (activation h2 u))) v) (ix3 b t d))
      = fun d => Ideal.ofBits .f32 0x3F9837F0#32 * x (ix3 b t d) + gate (ix3 b 0 d) * ∑ n : Fin 16384, v (ix2 n d) * ent h2 u l e r q b n t :=
    funext fun d => by rw [stream_at, hf]
  rw [← hs, ← normed_at]
  pointwise [REF]

end Cert.Peer

end
-- ==== Proof.Peer.lean ====
/- The experts' call: the accumulator after every grid point is the sum over the experts seen so far, so the block that the
   last point of a row of points stores is the reference's result at the block's rows. -/
module

public import proofs.«01_k».proof.Proof.Gen.Kernel5Ideal.Value
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.PeerStep
public import proofs.«01_k».proof.Proof.PeerRef

@[expose] public section

set_option maxRecDepth 16384

noncomputable section

open Idealize.ShloMosaic Idealize.ShloMosaic.TcCoe Idealize.SL.Sem
open Idealize.ShloMosaic.Pipeline (Dat)

namespace Cert.Kernel5Ideal.Value

open Cert.Kernel5Ideal Cert.Kernel5Ideal.Gen Cert.Peer

variable (m : (ℓ : Loc nD τ sig) → Buf (Elt Ideal) ℓ)

/-- Which block of its array each window holds at a grid point. -/
theorem idx : ∀ t : Fin cfg0.N, (win0_0.index t = ![t.val / 256, t.val / 16 % 16, 0] ∧ win0_1.index t = ![t.val % 16, 0]
    ∧ win0_2.index t = ![0, t.val % 16] ∧ win0_3.index t = ![t.val / 256, 0, t.val % 16, t.val / 16 % 16]
    ∧ win0_4.index t = ![t.val / 256, 0, t.val % 16, t.val / 16 % 16]) ∧ win0_5.index t = ![t.val / 256, 0, 0, t.val / 16 % 16]
    ∧ win0_6.index t = ![t.val / 256, 0, 0, t.val / 16 % 16] ∧ win0_7.index t = ![t.val / 256, t.val / 16 % 16, 0]
    ∧ win0_8.index t = ![t.val / 256, 0, 0] ∧ win0_9.index t = ![0, 0] ∧ win0_10.index t = ![0, 0]
    ∧ win0_11.index t = ![t.val / 256, t.val / 16 % 16, 0] :=
  (by decide +kernel : ∀ t : Fin grid0.N, _)

/-- The sum that a point adds, at a lane and a token. -/
theorem pay1_at (a : Vec Ideal S2048x512 .f32) (v : Vec Ideal S2048x1024 .bf16) (p : Vec Ideal S1024x512 .bf16) (d : Fin 2048) (t : Fin 512) :
    k0_pay1 (F := Ideal) a v p (ix2 d t) = a (ix2 d t) + ∑ r : Fin 1024, v (ix2 d r) * p (ix2 r t) := by
  pointwise [k0_pay1]

/-- The accumulator starts from zero. -/
theorem pay3_at (d : Fin 2048) (t : Fin 512) : k0_pay3 (F := Ideal) (ix2 d t) = 0 := by
  pointwise [k0_pay3]

/-- The stored block: the gated accumulator on top of the scaled residual stream, normalized. -/
theorem pay2_at (a : Vec Ideal S2048x512 .f32) (x : Vec Ideal S1x512x2048 .f32) (g : Vec Ideal S1x1x2048 .f32) (lg lb : Vec Ideal S1x2048 .f32)
    (t : Fin 512) (k : Fin 2048) :
    k0_pay2 (F := Ideal) a x g lg lb (ix3 0 t k)
      = Rows.norm (fun d => Ideal.ofBits .f32 0x3F9837F0#32 * x (ix3 0 t d) + g (ix3 0 0 d) * a (ix2 d t)) k * lg (ix2 0 k) + lb (ix2 0 k) := by
  pointwise [k0_pay2, Rows.norm, Rows.mean]

/-- The weight of expert `n` at a token, times the gelu of its activation, from the call's arguments. -/
abbrev entry (c : Dev nD) (b : Fin 4) (n : Fin 16384) (T : Fin 8192) : EReal :=
  ent (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) b n T

/-- An expert's lane of the second matrix. -/
abbrev down (c : Dev nD) (n : Fin 16384) (d : Fin 2048) : EReal := (m ((c : Thread nD τ).loc main_arg2) : FVec Ideal S16384x2048 .f32) (ix2 n d)

/-- What expert number `n` adds at a lane of a token, and nothing past the last expert. -/
def term (c : Dev nD) (b : Fin 4) (T : Fin 8192) (d : Fin 2048) (n : ℕ) : EReal :=
  if h : n < 16384 then down m c ⟨n, h⟩ d * entry m c b ⟨n, h⟩ T else 0

/-- The point's experts are the reference's at the block's place. -/
theorem pval_at (c : Dev nD) (t : Fin cfg0.N) (b : Fin 4) (hb : b.val = t.val / 256) (r : Fin 1024) (n : Fin 16384) (hn : n.val = t.val % 16 * 1024 + r.val)
    (tk : Fin 512) (T : Fin 8192) (hT : T.val = t.val / 16 % 16 * 512 + tk.val) :
    pval (iblk m c 0 t) (iblk m c 1 t) (iblk m c 3 t) (iblk m c 4 t) (iblk m c 5 t) (iblk m c 6 t) (ix2 r tk) = entry m c b n T := by
  have h0 : ∀ k : Fin 2048, (iblk m c 0 t : FVec Ideal S1x512x2048 .bf16) (ix3 0 tk k) = (m ((c : Thread nD τ).loc main_arg0) : FVec Ideal S4x8192x2048 .bf16) (ix3 b T k) := fun k => by
    blk_ext [iblk, V, idx t]
  have h1 : ∀ k : Fin 2048, (iblk m c 1 t : FVec Ideal S1024x2048 .bf16) (ix2 r k) = (m ((c : Thread nD τ).loc main_arg1) : FVec Ideal S16384x2048 .f32) (ix2 n k) := fun k => by
    blk_point [iblk, V, idx t]
  have h3 : ∀ h : Fin 8, (iblk m c 3 t : FVec Ideal S1x8x8x512 .f32) (ix4 0 h ⟨r.val / 128, by omega⟩ tk) = (m ((c : Thread nD τ).loc main_arg3) : FVec Ideal S4x8x128x8192 .f32) (ix4 b h ⟨n.val / 128, by omega⟩ T) := fun h => by
    blk_ext [iblk, V, idx t]
  have h4 : ∀ h : Fin 8, (iblk m c 4 t : FVec Ideal S1x8x8x512 .f32) (ix4 0 h ⟨r.val / 128, by omega⟩ tk) = (m ((c : Thread nD τ).loc main_arg4) : FVec Ideal S4x8x128x8192 .f32) (ix4 b h ⟨n.val / 128, by omega⟩ T) := fun h => by
    blk_ext [iblk, V, idx t]
  have h5 : ∀ h : Fin 8, (iblk m c 5 t : FVec Ideal S1x8x128x512 .bf16) (ix4 0 h ⟨r.val % 128, by omega⟩ tk) = (m ((c : Thread nD τ).loc main_arg5) : FVec Ideal S4x8x128x8192 .bf16) (ix4 b h ⟨n.val % 128, by omega⟩ T) := fun h => by
    blk_ext [iblk, V, idx t]
  have h6 : ∀ h : Fin 8, (iblk m c 6 t : FVec Ideal S1x8x128x512 .bf16) (ix4 0 h ⟨r.val % 128, by omega⟩ tk) = (m ((c : Thread nD τ).loc main_arg6) : FVec Ideal S4x8x128x8192 .bf16) (ix4 b h ⟨n.val % 128, by omega⟩ T) := fun h => by
    blk_ext [iblk, V, idx t]
  show pent _ _ _ _ _ _ r tk = _
  unfold pent entry ent
  refine congrArg₂ (fun a b : EReal => a * b) (Finset.sum_congr rfl fun h _ => congr (congr (congr (congrArg wt (h5 h)) (h6 h)) (h3 h)) (h4 h)) (congrArg gelu ?_)
  exact Finset.sum_congr rfl fun k _ => congrArg₂ (fun a b : EReal => a * b) (h1 k) (h0 k)

/-- What a point adds at a lane of a token, as a run of 1024 experts. -/
theorem added (c : Dev nD) (t : Fin cfg0.N) (b : Fin 4) (hb : b.val = t.val / 256) (tk : Fin 512) (T : Fin 8192) (hT : T.val = t.val / 16 % 16 * 512 + tk.val)
    (d : Fin 2048) (a : Vec Ideal S2048x512 .f32) :
    k0_pay1 (F := Ideal) a (iblk m c 2 t) (pval (iblk m c 0 t) (iblk m c 1 t) (iblk m c 3 t) (iblk m c 4 t) (iblk m c 5 t) (iblk m c 6 t)) (ix2 d tk)
      = a (ix2 d tk) + ∑ x ∈ Finset.range 1024, term m c b T d (1024 * (t.val % 16) + x) := by
  rw [pay1_at, Finset.sum_range]
  refine congrArg (fun v : EReal => _ + v) (Finset.sum_congr rfl fun r _ => ?_)
  have hn : 1024 * (t.val % 16) + r.val < 16384 := by omega
  unfold term
  rw [dif_pos hn]
  have h2 : (iblk m c 2 t : FVec Ideal S2048x1024 .bf16) (ix2 d r) = (m ((c : Thread nD τ).loc main_arg2) : FVec Ideal S16384x2048 .f32) (ix2 ⟨1024 * (t.val % 16) + r.val, hn⟩ d) := by
    blk_point [iblk, V, idx t]
  exact congrArg₂ (fun a b : EReal => a * b) h2 (pval_at m c t b hb r ⟨_, hn⟩ (by show 1024 * (t.val % 16) + r.val = _; omega) tk T hT)

/-- The accumulator after a point: the sum over the experts of the point's block and of the blocks before it in its row of points. -/
theorem acc_at (c : Dev nD) (tk : Fin 512) (d : Fin 2048) : ∀ (n : ℕ) (hn : n < cfg0.N) (b : Fin 4) (hb : b.val = n / 256) (T : Fin 8192) (hT : T.val = n / 16 % 16 * 512 + tk.val),
    ((outsAt0 m c n hn).2 : FVec Ideal S2048x512 .f32) (ix2 d tk) = ∑ x ∈ Finset.range (1024 * (n % 16) + 1024), term m c b T d x := by
  have hfirst : ∀ (t : Fin cfg0.N) (b : Fin 4) (hb : b.val = t.val / 256) (T : Fin 8192) (hT : T.val = t.val / 16 % 16 * 512 + tk.val), t.val % 16 = 0 →
      ((outsAt0 m c t.val t.isLt).2 : FVec Ideal S2048x512 .f32) (ix2 d tk) = ∑ x ∈ Finset.range (1024 * (t.val % 16) + 1024), term m c b T d x := fun t b hb T hT h0 => by
    rw [acc_A m c t h0 (by omega), added m c t b hb tk T hT d, pay3_at, Finset.sum_range_add, h0]
    rfl
  have hnext : ∀ (t : Fin cfg0.N) (b : Fin 4) (hb : b.val = t.val / 256) (T : Fin 8192) (hT : T.val = t.val / 16 % 16 * 512 + tk.val), ¬t.val % 16 = 0 →
      ((outsAt0 m c t.val t.isLt).2 : FVec Ideal S2048x512 .f32) (ix2 d tk)
        = ((outsAt0 m c (t.val - 1) (Nat.lt_of_le_of_lt (Nat.sub_le _ _) t.isLt)).2 : FVec Ideal S2048x512 .f32) (ix2 d tk)
          + ∑ x ∈ Finset.range 1024, term m c b T d (1024 * (t.val % 16) + x) := fun t b hb T hT h0 => by
    by_cases h1 : t.val % 16 = 15
    · rw [acc_C m c t h0 h1, added m c t b hb tk T hT d]
    · rw [acc_B m c t h0 h1, added m c t b hb tk T hT d]
  intro n
  induction n with
  | zero => exact fun hn b hb T hT => hfirst ⟨0, hn⟩ b hb T hT rfl
  | succ n ih =>
    intro hn b hb T hT
    by_cases h0 : (n + 1) % 16 = 0
    · exact hfirst ⟨n + 1, hn⟩ b hb T hT h0
    · refine (hnext ⟨n + 1, hn⟩ b hb T hT h0).trans ?_
      rw [Finset.sum_range_add]
      refine congrArg (fun v : EReal => v + _) ((ih (Nat.lt_of_succ_lt hn) b (by omega) T (by omega)).trans ?_)
      rw [show 1024 * (n % 16) + 1024 = 1024 * ((n + 1) % 16) by omega]

/-- The output after the run is the reference's result. -/
theorem final (c : Dev nD) : (dats m 0 c).arrAt 11 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have h1 : t.val % 16 = 15 := (flush0_11 t).mp hf
  have ht : t.val < 1024 := lt_of_lt_of_eq t.isLt N_0
  blk_simp
  rw [after0_11, out_C m c t (by omega) h1]
  obtain ⟨z, r, k, rfl⟩ : ∃ (z : Fin 1) (r : Fin 512) (k : Fin 2048), y = ix3 z r k := ⟨y 0, y 1, y 2, eq_ix3 y⟩
  obtain rfl : z = 0 := Subsingleton.elim _ _
  have hp : (((View.whole main_v5).slice (win0_11.rect t)).emb (ix3 0 r k) : S4x8192x2048.Idx)
      = ix3 (⟨t.val / 256, by omega⟩ : Fin 4) (⟨t.val / 16 % 16 * 512 + r.val, by omega⟩ : Fin 8192) k := by
    blk_ext [idx t]
  have h7 : ∀ l : Fin 2048, (iblk m c 7 t : FVec Ideal S1x512x2048 .f32) (ix3 0 r l) = (m ((c : Thread nD τ).loc main_arg7) : FVec Ideal S4x8192x2048 .f32)
      (ix3 ⟨t.val / 256, by omega⟩ ⟨t.val / 16 % 16 * 512 + r.val, by omega⟩ l) := fun l => by
    blk_ext [iblk, V, idx t]
  have h8 : ∀ l : Fin 2048, (iblk m c 8 t : FVec Ideal S1x1x2048 .f32) (ix3 0 0 l) = (m ((c : Thread nD τ).loc main_arg8) : FVec Ideal S4x1x2048 .f32)
      (ix3 ⟨t.val / 256, by omega⟩ 0 l) := fun l => by
    blk_ext [iblk, V, idx t]
  have h9 : ∀ l : Fin 2048, (iblk m c 9 t : FVec Ideal S1x2048 .f32) (ix2 0 l) = (m ((c : Thread nD τ).loc main_arg9) : FVec Ideal S2048 .f32) (ix1 l) := fun l => by
    blk_point [iblk, V, idx t]
  have h10 : ∀ l : Fin 2048, (iblk m c 10 t : FVec Ideal S1x2048 .f32) (ix2 0 l) = (m ((c : Thread nD τ).loc main_arg10) : FVec Ideal S2048 .f32) (ix1 l) := fun l => by
    blk_point [iblk, V, idx t]
  have ha : ∀ d : Fin 2048, ((outsAt0 m c t.val t.isLt).2 : FVec Ideal S2048x512 .f32) (ix2 d r) = ∑ n : Fin 16384,
      down m c n d * entry m c ⟨t.val / 256, by omega⟩ n ⟨t.val / 16 % 16 * 512 + r.val, by omega⟩ := fun d => by
    rw [acc_at m c r d t.val t.isLt ⟨t.val / 256, by omega⟩ rfl ⟨t.val / 16 % 16 * 512 + r.val, by omega⟩ rfl, h1, Finset.sum_range]
    refine Finset.sum_congr rfl fun n _ => ?_
    unfold term
    rw [dif_pos n.isLt]
  refine (pay2_at _ _ _ _ _ r k).trans ?_
  refine Eq.trans ?_ (congrArg _ hp.symm)
  refine Eq.trans ?_ (ref_at _ _ _ _ _ _ _ _ _ _ _ _ _ _).symm
  refine congrArg₂ (fun a b : EReal => a + b) (congrArg₂ (fun a b : EReal => a * b) ?_ (h9 k)) (h10 k)
  refine congrArg (fun f => Rows.norm f k) (funext fun d => ?_)
  exact congrArg₂ (fun a b : EReal => a + b) (congrArg (fun b : EReal => _ * b) (h7 d)) (congrArg₂ (fun a b : EReal => a * b) (h8 d) (ha d))

end Cert.Kernel5Ideal.Value

end
-- ==== Proof.PeerCall.lean ====
/- The value claim of the experts' call: the two runs side by side. -/
module

public import proofs.«01_k».proof.Defs
public import proofs.«01_k».proof.Proof.Peer
public import proofs.«01_k».proof.Proof.Gen.Reference5Ideal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The experts' kernel leaves the reference's result: the residual stream plus the gated sum of the experts, normalized. -/
theorem peer_algebraic : Cert.algebraic_Kernel5Ideal_Reference5Ideal (hKernel5Ideal := Cert.Kernel5Ideal.Gen.facts) (hReference5Ideal := Cert.Reference5Ideal.Gen.facts) := by
  pair_intro
  · run_from Cert.Kernel5Ideal.Value.run_blocks m g
  · run_from Cert.Reference5Ideal.Value.run m' g'
    obtain ⟨h0, h1, h2, h3, h4, h5, h6, h7, h8, h9, h10⟩ := hagree c
    rw [Cert.Peer.ref_eq, h0, h1, h2, h3, h4, h5, h6, h7, h8, h9, h10]
    exact (Cert.Kernel5Ideal.Value.final m c).symm

end Cert.Proof

end
-- ==== Proof.SamplePeerSlab.lean ====
/- The experts' call on the sample, one slab of 128 experts: the weight of every expert at every token, a sum over the heads that picked
   it, times the gelu of its activation. -/
module

public import proofs.«01_k».proof.Proof.Gen.Kernel6Ideal.Run
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.PeerSlab

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Peer

/-- A row of one number per token, repeated for the 128 experts of a slab. -/
def rep (l : Vec Ideal S1x1x1x256 .f32) : FVec Ideal S8x16x256 .bf16 :=
  broadcastTo S8x16x256 (shapeCast S1x16x256 (truncf .bf16 (broadcastTo S16x256 (shapeCast S1x256 (shapeCast S1x256 l
    shapeCasts_S1x1x1x256_S1x256) shapeCasts_S1x256_S1x256) broadcasts_S1x256_S16x256) bitsLt_bf16_f32) shapeCasts_S16x256_S1x16x256)
    broadcasts_S1x16x256_S8x16x256

/-- The 128 experts' numbers, as 8 groups of 16. -/
def grp (r : Vec Ideal S1x1x128x256 .bf16) : FVec Ideal S8x16x256 .bf16 :=
  shapeCast S8x16x256 (shapeCast S128x256 r shapeCasts_S1x1x128x256_S128x256) shapeCasts_S128x256_S8x16x256

/-- One head's part of the weights of a slab. -/
def head (l e : Vec Ideal S1x1x1x256 .f32) (r q : Vec Ideal S1x1x128x256 .bf16) : FVec Ideal S8x16x256 .bf16 :=
  select (cmpf .olt (grp r) (rep l)) (mulf (grp q) (rep e)) (broadcast S8x16x256 (Scalar.ofBits .bf16 0x0000#16))

/-- The weights of a slab: the eight heads' parts added. -/
def weights (L E : Fin 8 → Vec Ideal S1x1x1x256 .f32) (R Q : Fin 8 → Vec Ideal S1x1x128x256 .bf16) : FVec Ideal S8x16x256 .bf16 :=
  addf (addf (addf (addf (addf (addf (addf (head (L 0) (E 0) (R 0) (Q 0)) (head (L 1) (E 1) (R 1) (Q 1))) (head (L 2) (E 2) (R 2) (Q 2)))
    (head (L 3) (E 3) (R 3) (Q 3))) (head (L 4) (E 4) (R 4) (Q 4))) (head (L 5) (E 5) (R 5) (Q 5))) (head (L 6) (E 6) (R 6) (Q 6)))
    (head (L 7) (E 7) (R 7) (Q 7))

/-- A slab: the weights times the gelu of the activations. -/
def slab (w : FVec Ideal S8x16x256 .bf16) (a : FVec Ideal S128x256 .f32) : FVec Ideal S128x256 .bf16 :=
  shapeCast S128x256 (truncf .bf16 (mulf (extf .f32 (shapeCast S128x256 w shapeCasts_S8x16x256_S128x256) bitsLt_bf16_f32)
    (mulf (mulf (broadcast S128x256 (Scalar.ofBits .f32 0x3F000000#32)) a)
      (addf (broadcast S128x256 (Scalar.ofBits .f32 0x3F800000#32)) (erf (mulf a (broadcast S128x256 (Scalar.ofBits .f32 0x3F3504F3#32)))))))
    bitsLt_bf16_f32) shapeCasts_S128x256_S128x256

/-- A repeated row at an index. -/
theorem rep_at (l : Vec Ideal S1x1x1x256 .f32) (i : Fin 8) (j : Fin 16) (t : Fin 256) : rep l (ix3 i j t) = l (ix4 0 0 0 t) := by
  unfold rep
  pointwise

/-- A group's number at an index. -/
theorem grp_at (r : Vec Ideal S1x1x128x256 .bf16) (i : Fin 8) (j : Fin 16) (t : Fin 256) :
    grp r (ix3 i j t) = r (ix4 0 0 ⟨i.val * 16 + j.val, by omega⟩ t) := by
  unfold grp
  pointwise

/-- One head's part at an index. -/
theorem head_at (l e : Vec Ideal S1x1x1x256 .f32) (r q : Vec Ideal S1x1x128x256 .bf16) (i : Fin 8) (j : Fin 16) (t : Fin 256) :
    head l e r q (ix3 i j t) = wt (r (ix4 0 0 ⟨i.val * 16 + j.val, by omega⟩ t)) (q (ix4 0 0 ⟨i.val * 16 + j.val, by omega⟩ t))
      (l (ix4 0 0 0 t)) (e (ix4 0 0 0 t)) := by
  rw [← grp_at r, ← grp_at q, ← rep_at l i j t, ← rep_at e i j t]
  unfold head wt
  pointwise

/-- The weights of a slab at an index, as a sum over the heads. -/
theorem weights_at (L E : Fin 8 → Vec Ideal S1x1x1x256 .f32) (R Q : Fin 8 → Vec Ideal S1x1x128x256 .bf16) (i : Fin 8) (j : Fin 16) (t : Fin 256) :
    weights L E R Q (ix3 i j t) = ∑ h : Fin 8, wt (R h (ix4 0 0 ⟨i.val * 16 + j.val, by omega⟩ t)) (Q h (ix4 0 0 ⟨i.val * 16 + j.val, by omega⟩ t))
      (L h (ix4 0 0 0 t)) (E h (ix4 0 0 0 t)) := by
  rw [Fin.sum_univ_eight]
  iterate 8 rw [← head_at]
  rfl

/-- A slab at an index. -/
theorem slab_at (w : FVec Ideal S8x16x256 .bf16) (a : FVec Ideal S128x256 .f32) (b : Fin 128) (t : Fin 256) :
    slab w a (ix2 b t) = w (ix3 ⟨b.val / 16, by omega⟩ ⟨b.val % 16, by omega⟩ t) * gelu (a (ix2 b t)) := by
  unfold slab gelu
  pointwise
  rfl

end Cert.Kernel6Ideal.Value

end
-- ==== Proof.SamplePeerStep.lean ====
/- The experts' call on the sample, one grid point: the 1024 experts of the point's block as eight slabs of 128, and the sum that the
   point adds to the accumulator. -/
module

public import proofs.«01_k».proof.Proof.Gen.Kernel6Ideal.Run
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.SamplePeerSlab

@[expose] public section

set_option maxRecDepth 16384

noncomputable section

open Idealize.ShloMosaic Idealize.ShloMosaic.TcCoe Idealize.SL.Sem

namespace Cert.Kernel6Ideal.Value

open Cert.Kernel6Ideal Cert.Kernel6Ideal.Gen Cert.Peer

variable (m : (ℓ : Loc nD τ sig) → Buf (Elt Ideal) ℓ)

/-- The rows of a slab's tokens lie in the window. -/
theorem inb_row (h al : Fin 8) : ∀ a : Fin 4, (![0, h.val, al.val, 0] : Fin 4 → Nat) a + (![1, 1, 1, 256] : Fin 4 → Nat) a ≤ (![1, 8, 8, 256] : Fin 4 → Nat) a := by
  revert h al; decide

/-- A head's slab lies in the window. -/
theorem inb_slab (h : Fin 8) : ∀ a : Fin 4, (![0, h.val, 0, 0] : Fin 4 → Nat) a + (![1, 1, 128, 256] : Fin 4 → Nat) a ≤ (![1, 8, 128, 256] : Fin 4 → Nat) a := by
  revert h; decide

/-- A chunk of 512 experts lies in the window. -/
theorem inb_chunk (ch : Fin 2) : ∀ a : Fin 2, (![512 * ch.val, 0] : Fin 2 → Nat) a + (![512, 2048] : Fin 2 → Nat) a ≤ (![1024, 2048] : Fin 2 → Nat) a := by
  revert ch; decide

/-- A quarter of a chunk lies in the chunk. -/
theorem inb_quarter (q : Fin 4) : S512x256.Slices ![128 * q.val, 0] S128x256 := by
  revert q; decide

/-- One row of head `h` and slab `al`. -/
def rowOf (V : Vec Ideal S1x8x8x256 .f32) (h al : Fin 8) : Vec Ideal S1x1x1x256 .f32 :=
  View.ld V (Rect.unit ![0, h.val, al.val, 0] ![1, 1, 1, 256] (inb_row h al))

/-- The numbers of head `h`. -/
def headOf (V : Vec Ideal S1x8x128x256 .bf16) (h : Fin 8) : Vec Ideal S1x1x128x256 .bf16 :=
  View.ld V (Rect.unit ![0, h.val, 0, 0] ![1, 1, 128, 256] (inb_slab h))

/-- The activations of one slab: a quarter of a chunk of 512 experts. -/
def acts (U : Vec Ideal S1024x2048 .bf16) (H : Vec Ideal S1x256x2048 .bf16) (ch : Fin 2) (q : Fin 4) : FVec Ideal S128x256 .f32 :=
  extractStridedSlice S128x256 ![128 * q.val, 0] (k0_pay4 (View.ld U (Rect.unit ![512 * ch.val, 0] ![512, 2048] (inb_chunk ch))) H) (inb_quarter q)

/-- The slab `4 ch + q` from the windows. -/
def slabOf (H : Vec Ideal S1x256x2048 .bf16) (U : Vec Ideal S1024x2048 .bf16) (L E : Vec Ideal S1x8x8x256 .f32) (R Q : Vec Ideal S1x8x128x256 .bf16)
    (al : Fin 8) (ch : Fin 2) (q : Fin 4) : FVec Ideal S128x256 .bf16 :=
  slab (weights (fun h => rowOf L h al) (fun h => rowOf E h al) (headOf R) (headOf Q)) (acts U H ch q)

/-- The weight of expert `r` of the block at token `t`, times the gelu of its activation. -/
def pent (H : Vec Ideal S1x256x2048 .bf16) (U : Vec Ideal S1024x2048 .bf16) (L E : Vec Ideal S1x8x8x256 .f32) (R Q : Vec Ideal S1x8x128x256 .bf16)
    (r : Fin 1024) (t : Fin 256) : EReal :=
  (∑ h : Fin 8, wt (R (ix4 0 h ⟨r.val % 128, by omega⟩ t)) (Q (ix4 0 h ⟨r.val % 128, by omega⟩ t))
    (L (ix4 0 h ⟨r.val / 128, by omega⟩ t)) (E (ix4 0 h ⟨r.val / 128, by omega⟩ t)))
    * gelu (∑ k : Fin 2048, U (ix2 r k) * H (ix3 0 t k))

/-- The block's experts at the block's tokens. -/
def pval (H : Vec Ideal S1x256x2048 .bf16) (U : Vec Ideal S1024x2048 .bf16) (L E : Vec Ideal S1x8x8x256 .f32) (R Q : Vec Ideal S1x8x128x256 .bf16) :
    FVec Ideal S1024x256 .bf16 := fun y => pent H U L E R Q (y 0) (y 1)

/-- A slab at an index. -/
theorem slabOf_at (H : Vec Ideal S1x256x2048 .bf16) (U : Vec Ideal S1024x2048 .bf16) (L E : Vec Ideal S1x8x8x256 .f32) (R Q : Vec Ideal S1x8x128x256 .bf16)
    (al : Fin 8) (ch : Fin 2) (q : Fin 4) (hal : al.val = 4 * ch.val + q.val) (r : Fin 1024) (t : Fin 256) (x : S128x256.Idx)
    (h0 : r.val = 128 * al.val + (x 0).val) (h1 : t.val = (x 1).val) :
    slabOf H U L E R Q al ch q x = pent H U L E R Q r t := by
  obtain ⟨b, t', rfl⟩ : ∃ (b : Fin 128) (t' : Fin 256), x = ix2 b t' := ⟨_, _, eq_ix2 x⟩
  obtain rfl : t = t' := Fin.ext h1
  replace h0 : r.val = 128 * al.val + b.val := h0
  have e1 : (⟨r.val / 128, by omega⟩ : Fin 8) = al := Fin.ext (by show r.val / 128 = _; omega)
  have e2 : (⟨r.val % 128, by omega⟩ : Fin 128) = b := Fin.ext (by show r.val % 128 = _; omega)
  have eb : (⟨b.val / 16 * 16 + b.val % 16, by omega⟩ : Fin 128) = b := Fin.ext (by show b.val / 16 * 16 + b.val % 16 = _; omega)
  unfold slabOf pent
  rw [slab_at, weights_at, e1, e2]
  refine congrArg₂ (· * ·) (Finset.sum_congr rfl fun h _ => ?_) (congrArg gelu ?_)
  · have hr : ∀ V : Vec Ideal S1x8x128x256 .bf16, headOf V h (ix4 0 0 ⟨b.val / 16 * 16 + b.val % 16, by omega⟩ t) = V (ix4 0 h b t) := fun V => by
      rw [eb]
      exact View.ld_unit_apply_of _ _ _ _ _ _ (by intro a; fin_cases a <;> first | rfl | exact (Nat.add_zero _).symm | exact (Nat.zero_add _).symm)
    have hl : ∀ V : Vec Ideal S1x8x8x256 .f32, rowOf V h al (ix4 0 0 0 t) = V (ix4 0 h al t) := fun V =>
      View.ld_unit_apply_of _ _ _ _ _ _ (by intro a; fin_cases a <;> first | rfl | exact (Nat.add_zero _).symm | exact (Nat.zero_add _).symm)
    exact congr (congr (congr (congrArg wt (hr R)) (hr Q)) (hl L)) (hl E)
  · have ha : ∀ (A : FVec Ideal S512x256 .f32), extractStridedSlice S128x256 ![128 * q.val, 0] A (inb_quarter q) (ix2 b t)
        = A (ix2 ⟨128 * q.val + b.val, by omega⟩ t) := fun A => by pointwise
    have hp : ∀ (X : Vec Ideal S512x2048 .bf16) (r : Fin 512), k0_pay4 X H (ix2 r t) = ∑ k : Fin 2048, X (ix2 r k) * H (ix3 0 t k) := fun X r => by
      pointwise [k0_pay4]
    unfold acts
    rw [ha, hp]
    refine Finset.sum_congr rfl fun k _ => congrArg (· * _) ?_
    refine View.ld_unit_apply_of _ _ _ _ _ _ (fun a => ?_)
    fin_cases a
    · show r.val = 512 * ch.val + (128 * q.val + b.val)
      omega
    · exact (Nat.zero_add _).symm

/-- A whole box puts a row at the same row. -/
theorem box0 (r : Fin 1024) (tk : Fin 256) (inb) : r.val = ((Rect.unit (s := S1024x256) ![0, 0] ![1024, 256] inb).idx (ix2 r tk) 0).val :=
  (Nat.zero_add _).symm.trans (Rect.idx_unit_val (s := S1024x256) ![0, 0] ![1024, 256] inb (ix2 r tk) 0).symm

/-- A whole box puts a column at the same column. -/
theorem box1 (r : Fin 1024) (tk : Fin 256) (inb) : tk.val = ((Rect.unit (s := S1024x256) ![0, 0] ![1024, 256] inb).idx (ix2 r tk) 1).val :=
  (Nat.zero_add _).symm.trans (Rect.idx_unit_val (s := S1024x256) ![0, 0] ![1024, 256] inb (ix2 r tk) 1).symm

set_option maxHeartbeats 4000000 in
/-- The accumulator after the first point of a row of points: the block's experts added to zero. -/
theorem acc_A (c : Dev nD) (t : Fin cfg0.N) (h0 : t.val % 16 = 0) (h1 : ¬t.val % 16 = 15) :
    (outsAt0 m c t.val t.isLt).2 = k0_pay1 k0_pay3 (iblk m c 2 t)
      (pval (iblk m c 0 t) (iblk m c 1 t) (iblk m c 3 t) (iblk m c 4 t) (iblk m c 5 t) (iblk m c 6 t)) := by
  rw [outsAt0_A m c t h0 h1]; frame_out
  refine congrArg (k0_pay1 _ _) (funext fun y => ?_)
  obtain ⟨r, tk, rfl⟩ : ∃ (r : Fin 1024) (tk : Fin 256), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

set_option maxHeartbeats 4000000 in
/-- The accumulator after a point that is neither the first nor the last of its row of points: the accumulator before it plus the block's experts. -/
theorem acc_B (c : Dev nD) (t : Fin cfg0.N) (h0 : ¬t.val % 16 = 0) (h1 : ¬t.val % 16 = 15) :
    (outsAt0 m c t.val t.isLt).2 = k0_pay1 (outsAt0 m c (t.val - 1) (Nat.lt_of_le_of_lt (Nat.sub_le _ _) t.isLt)).2 (iblk m c 2 t)
      (pval (iblk m c 0 t) (iblk m c 1 t) (iblk m c 3 t) (iblk m c 4 t) (iblk m c 5 t) (iblk m c 6 t)) := by
  rw [outsAt0_B m c t h0 h1]; frame_out
  rw [(Memref.isWhole_whole cc0_scratch0).read_unread]
  refine congrArg (k0_pay1 _ _) (funext fun y => ?_)
  obtain ⟨r, tk, rfl⟩ : ∃ (r : Fin 1024) (tk : Fin 256), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

set_option maxHeartbeats 4000000 in
/-- The accumulator after the last point of a row of points: the accumulator before it plus the block's experts. -/
theorem acc_C (c : Dev nD) (t : Fin cfg0.N) (h0 : ¬t.val % 16 = 0) (h1 : t.val % 16 = 15) :
    (outsAt0 m c t.val t.isLt).2 = k0_pay1 (outsAt0 m c (t.val - 1) (Nat.lt_of_le_of_lt (Nat.sub_le _ _) t.isLt)).2 (iblk m c 2 t)
      (pval (iblk m c 0 t) (iblk m c 1 t) (iblk m c 3 t) (iblk m c 4 t) (iblk m c 5 t) (iblk m c 6 t)) := by
  rw [outsAt0_C m c t h0 h1]; frame_out
  rw [(Memref.isWhole_whole cc0_scratch0).read_unread]
  refine congrArg (k0_pay1 _ _) (funext fun y => ?_)
  obtain ⟨r, tk, rfl⟩ : ∃ (r : Fin 1024) (tk : Fin 256), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

set_option maxHeartbeats 4000000 in
/-- The output block after the last point of a row of points: the final layer norm of the accumulator. -/
theorem out_C (c : Dev nD) (t : Fin cfg0.N) (h0 : ¬t.val % 16 = 0) (h1 : t.val % 16 = 15) :
    (outsAt0 m c t.val t.isLt).1 = k0_pay2 (outsAt0 m c t.val t.isLt).2 (iblk m c 7 t) (iblk m c 8 t) (iblk m c 9 t) (iblk m c 10 t) := by
  rw [acc_C m c t h0 h1, outsAt0_C m c t h0 h1]; frame_out
  rw [(Memref.isWhole_whole cc0_scratch0).read_unread]
  refine congrArg (fun w => k0_pay2 (k0_pay1 _ _ w) _ _ _ _) (funext fun y => ?_)
  obtain ⟨r, tk, rfl⟩ : ∃ (r : Fin 1024) (tk : Fin 256), y = ix2 r tk := ⟨_, _, eq_ix2 y⟩
  rw [View.readCov_eq_canon']
  canon_tiles x hx
  case piece0 => exact slabOf_at _ _ _ _ _ _ 7 1 3 rfl r tk x ((box0 r tk _).trans hx0) ((box1 r tk _).trans hx1)
  case piece1 => exact slabOf_at _ _ _ _ _ _ 6 1 2 rfl r tk x ((box0 r tk _).trans hx0) ((box1 r tk _).trans hx1)
  case piece2 => exact slabOf_at _ _ _ _ _ _ 5 1 1 rfl r tk x ((box0 r tk _).trans hx0) ((box1 r tk _).trans hx1)
  case piece3 => exact slabOf_at _ _ _ _ _ _ 4 1 0 rfl r tk x ((box0 r tk _).trans hx0) ((box1 r tk _).trans hx1)
  case piece4 => exact slabOf_at _ _ _ _ _ _ 3 0 3 rfl r tk x ((box0 r tk _).trans hx0) ((box1 r tk _).trans hx1)
  case piece5 => exact slabOf_at _ _ _ _ _ _ 2 0 2 rfl r tk x ((box0 r tk _).trans hx0) ((box1 r tk _).trans hx1)
  case piece6 => exact slabOf_at _ _ _ _ _ _ 1 0 1 rfl r tk x ((box0 r tk _).trans hx0) ((box1 r tk _).trans hx1)
  case piece7 => exact slabOf_at _ _ _ _ _ _ 0 0 0 rfl r tk x ((box0 r tk _).trans (hx0.trans (Nat.zero_add _).symm)) ((box1 r tk _).trans hx1)

end Cert.Kernel6Ideal.Value

end
-- ==== Proof.SamplePeerRef.lean ====
/- The experts' call on the sample: its reference, in pieces and at an index. -/
module

public import proofs.«01_k».proof.Proof.Gen.Reference6Ideal.Run
public import Idealize.ShloMosaic.Lib.Pipeline.ValueKit
public import Idealize.ShloMosaic.Lib.Pointwise
public import Idealize.ShloMosaic.Lib.Claim
public import proofs.«01_k».proof.Proof.Rows
public import proofs.«01_k».proof.Proof.PeerSlab

@[expose] public section

set_option maxRecDepth 16384

noncomputable section

open Idealize.ShloMosaic Idealize.ShloMosaic.TcCoe Idealize.SL.Sem

namespace Cert.SamplePeer

open Cert.Reference6Ideal Cert.Reference6Ideal.Gen Cert.Peer

/-- Every head's weight of every pair of keys at every token. -/
def pairs (l e : FVec Ideal S1x8x128x256 .f32) (r q : FVec Ideal S1x8x128x256 .bf16) : FVec Ideal S1x8x128x128x256 .f32 :=
  select (cmpf .olt
      (broadcastInDim S1x8x128x128x256 ![0, 1, 2, 3, 4] bcast_S1x8x1x128x256_S1x8x128x128x256_0_1_2_3_4 (broadcastInDim S1x8x1x128x256 ![0, 1, 3, 4] bcast_S1x8x128x256_S1x8x1x128x256_0_1_3_4 (extf .f32 r bitsLt_bf16_f32)))
      (broadcastInDim S1x8x128x128x256 ![0, 1, 2, 3, 4] bcast_S1x8x128x1x256_S1x8x128x128x256_0_1_2_3_4 (broadcastInDim S1x8x128x1x256 ![0, 1, 2, 4] bcast_S1x8x128x256_S1x8x128x1x256_0_1_2_4 l)))
    (mulf
      (broadcastInDim S1x8x128x128x256 ![0, 1, 2, 3, 4] bcast_S1x8x128x1x256_S1x8x128x128x256_0_1_2_3_4 (broadcastInDim S1x8x128x1x256 ![0, 1, 2, 4] bcast_S1x8x128x256_S1x8x128x1x256_0_1_2_4 e))
      (broadcastInDim S1x8x128x128x256 ![0, 1, 2, 3, 4] bcast_S1x8x1x128x256_S1x8x128x128x256_0_1_2_3_4 (broadcastInDim S1x8x1x128x256 ![0, 1, 3, 4] bcast_S1x8x128x256_S1x8x1x128x256_0_1_3_4 (extf .f32 q bitsLt_bf16_f32))))
    (broadcastInDim S1x8x128x128x256 ![] bcast_S_S1x8x128x128x256 (constant S_ .f32 0x00000000#32))

/-- The weight of every expert at every token: the heads' weights added. -/
def weight (l e : FVec Ideal S1x8x128x256 .f32) (r q : FVec Ideal S1x8x128x256 .bf16) : FVec Ideal S1x16384x256 .f32 :=
  shapeCast S1x16384x256 (Host.reduceAdd (pairs l e r q) (constant S_ .f32 0x00000000#32) reducesTo_S1x8x128x128x256_S1x128x128x256_d1 h_S_)
    shapeCasts_S1x128x128x256_S1x16384x256

/-- The activation of every expert at every token. -/
def activation (h2 : FVec Ideal S1x256x2048 .bf16) (u : FVec Ideal S16384x2048 .f32) : FVec Ideal S1x16384x256 .f32 :=
  transpose S1x16384x256 [1, 0, 2] (Host.dotGeneral dot_S16384x2048_S1x256x2048_S16384x1x256_1_2_0_01_n_n none u (extf .f32 h2 bitsLt_bf16_f32))
    transposes_S16384x1x256_S1x16384x256_1_0_2

/-- The gelu of the activations. -/
def gelus (a : FVec Ideal S1x16384x256 .f32) : FVec Ideal S1x16384x256 .f32 :=
  mulf (mulf (broadcastInDim S1x16384x256 ![] bcast_S_S1x16384x256 (constant S_ .f32 0x3F000000#32)) a)
    (Host.erfc (mulf (Host.negf a) (broadcastInDim S1x16384x256 ![] bcast_S_S1x16384x256 (constant S_ .f32 0x3F3504F3#32))))

/-- What the experts add to the residual stream. -/
def ffn (p : FVec Ideal S1x16384x256 .f32) (v : FVec Ideal S16384x2048 .f32) : FVec Ideal S1x256x2048 .f32 :=
  Host.dotGeneral dot_S1x16384x256_S16384x2048_S1x256x2048_1_0_02_1_n_n none p v

/-- The residual stream: `ALPHA * x` plus the gated sum of the experts. -/
def stream (x : FVec Ideal S1x256x2048 .f32) (gate : FVec Ideal S8x1x2048 .f32) (f : FVec Ideal S1x256x2048 .f32) : FVec Ideal S8x32x2048 .f32 :=
  addf (mulf (broadcastInDim S8x32x2048 ![] bcast_S_S8x32x2048 (constant S_ .f32 0x3F9837F0#32)) (shapeCast S8x32x2048 x shapeCasts_S1x256x2048_S8x32x2048))
    (mulf (broadcastInDim S8x32x2048 ![0, 1, 2] bcast_S8x1x2048_S8x32x2048_0_1_2 gate) (shapeCast S8x32x2048 f shapeCasts_S1x256x2048_S8x32x2048))

/-- The mean over the model axis, kept as a column. -/
def rowMean (v : FVec Ideal S8x32x2048 .f32) : FVec Ideal S8x32x1 .f32 :=
  Host.divf (broadcastInDim S8x32x1 ![0, 1] bcast_S8x32_S8x32x1_0_1
      (Host.reduceAdd v (constant S_ .f32 0x00000000#32) reducesTo_S8x32x2048_S8x32_d2 h_S_))
    (broadcastInDim S8x32x1 ![] bcast_S_S8x32x1 (constant S_ .f32 0x45000000#32))

/-- A row minus its mean. -/
def centred (v : FVec Ideal S8x32x2048 .f32) : FVec Ideal S8x32x2048 .f32 :=
  subf v (broadcastInDim S8x32x2048 ![0, 1, 2] bcast_S8x32x1_S8x32x2048_0_1_2 (rowMean v))

/-- A row normalized: centred, times the reciprocal root of its variance plus the small constant. -/
def normed (v : FVec Ideal S8x32x2048 .f32) : FVec Ideal S8x32x2048 .f32 :=
  mulf (centred v) (broadcastInDim S8x32x2048 ![0, 1, 2] bcast_S8x32x1_S8x32x2048_0_1_2
    (Host.rsqrt (addf (rowMean (mulf (centred v) (centred v)))
      (broadcastInDim S8x32x1 ![] bcast_S_S8x32x1 (constant S_ .f32 0x3727C5AC#32)))))

/-- The reference's result: the residual stream after the affine layer norm. -/
def REF (h2 : FVec Ideal S1x256x2048 .bf16) (u v : FVec Ideal S16384x2048 .f32) (l e : FVec Ideal S1x8x128x256 .f32)
    (r q : FVec Ideal S1x8x128x256 .bf16) (x : FVec Ideal S1x256x2048 .f32) (gate : FVec Ideal S8x1x2048 .f32) (lg lb : FVec Ideal S2048 .f32) :
    FVec Ideal S8x32x2048 .f32 :=
  addf (mulf (normed (stream x gate (ffn (mulf (weight l e r q) (gelus (activation h2 u))) v)))
      (broadcastInDim S8x32x2048 ![0, 1, 2] bcast_S1x1x2048_S8x32x2048_0_1_2 (broadcastInDim S1x1x2048 ![2] bcast_S2048_S1x1x2048_2 lg)))
    (broadcastInDim S8x32x2048 ![0, 1, 2] bcast_S1x1x2048_S8x32x2048_0_1_2 (broadcastInDim S1x1x2048 ![2] bcast_S2048_S1x1x2048_2 lb))

/-- The reference's composed term is `REF` of its arguments. -/
theorem ref_eq (m : (ℓ : Loc nD τ sig) → Buf (Elt Ideal) ℓ) (c : Dev nD) :
    Cert.Reference6Ideal.Value.res_main_v57 m c
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10)) := by
  unfold Cert.Reference6Ideal.Value.res_main_v57
  rfl

/-- An expert's weight at a token. -/
theorem weight_at (l e : FVec Ideal S1x8x128x256 .f32) (r q : FVec Ideal S1x8x128x256 .bf16) (b : Fin 1) (n : Fin 16384) (t : Fin 256) :
    weight l e r q (ix3 b n t) = ∑ h : Fin 8, wt (r (ix4 b h ⟨n.val % 128, by omega⟩ t)) (q (ix4 b h ⟨n.val % 128, by omega⟩ t))
      (l (ix4 b h ⟨n.val / 128, by omega⟩ t)) (e (ix4 b h ⟨n.val / 128, by omega⟩ t)) := by
  obtain rfl : b = 0 := Subsingleton.elim _ _
  unfold weight pairs wt
  pointwise
  exact Finset.sum_congr rfl fun h _ => if_congr Iff.rfl (mul_comm _ _) rfl

/-- An expert's activation at a token. -/
theorem activation_at (h2 : FVec Ideal S1x256x2048 .bf16) (u : FVec Ideal S16384x2048 .f32) (b : Fin 1) (n : Fin 16384) (t : Fin 256) :
    activation h2 u (ix3 b n t) = ∑ k : Fin 2048, u (ix2 n k) * h2 (ix3 b t k) := by
  obtain rfl : b = 0 := Subsingleton.elim _ _
  unfold activation
  pointwise

/-- The gelu at an index: the complementary error function of the negated number is one plus the error function. -/
theorem gelus_at (a : FVec Ideal S1x16384x256 .f32) (b : Fin 1) (n : Fin 16384) (t : Fin 256) :
    gelus a (ix3 b n t) = gelu (a (ix3 b n t)) := by
  obtain rfl : b = 0 := Subsingleton.elim _ _
  unfold gelus gelu
  pointwise
  rw [EReal.neg_mul, Ideal.erfc_neg]

/-- The experts' sum at an index. -/
theorem ffn_at (p : FVec Ideal S1x16384x256 .f32) (v : FVec Ideal S16384x2048 .f32) (b : Fin 1) (t : Fin 256) (k : Fin 2048) :
    ffn p v (ix3 b t k) = ∑ n : Fin 16384, p (ix3 b n t) * v (ix2 n k) := by
  obtain rfl : b = 0 := Subsingleton.elim _ _
  unfold ffn
  pointwise

/-- The residual stream at an index: row `r` of sequence `s` is row `32 s + r` of the rows laid end to end. -/
theorem stream_at (x : FVec Ideal S1x256x2048 .f32) (gate : FVec Ideal S8x1x2048 .f32) (f : FVec Ideal S1x256x2048 .f32) (s : Fin 8) (r : Fin 32)
    (T : Fin 256) (hT : T.val = s.val * 32 + r.val) (k : Fin 2048) :
    stream x gate f (ix3 s r k) = Ideal.ofBits .f32 0x3F9837F0#32 * x (ix3 0 T k) + gate (ix3 s 0 k) * f (ix3 0 T k) := by
  have hl : s.val * 32 + r.val < 256 := by
    clear hT
    omega
  obtain rfl : T = ⟨s.val * 32 + r.val, hl⟩ := Fin.ext hT
  pointwise [stream]

/-- The reference's normalization reads a row at a time. -/
theorem normed_at (v : FVec Ideal S8x32x2048 .f32) (b : Fin 8) (r : Fin 32) (k : Fin 2048) :
    normed v (ix3 b r k) = Rows.norm (fun l => v (ix3 b r l)) k := by
  pointwise [normed, centred, rowMean, Rows.norm, Rows.mean]

/-- A product at an index. -/
theorem mulf_at (p q : FVec Ideal S1x16384x256 .f32) (b : Fin 1) (n : Fin 16384) (t : Fin 256) :
    mulf p q (ix3 b n t) = p (ix3 b n t) * q (ix3 b n t) := by
  obtain rfl : b = 0 := Subsingleton.elim _ _
  pointwise

/-- What expert `n` weighs at token `t`, times the gelu of its activation. -/
def ent (h2 : FVec Ideal S1x256x2048 .bf16) (u : FVec Ideal S16384x2048 .f32) (l e : FVec Ideal S1x8x128x256 .f32)
    (r q : FVec Ideal S1x8x128x256 .bf16) (b : Fin 1) (n : Fin 16384) (t : Fin 256) : EReal :=
  (∑ h : Fin 8, wt (r (ix4 b h ⟨n.val % 128, by omega⟩ t)) (q (ix4 b h ⟨n.val % 128, by omega⟩ t))
      (l (ix4 b h ⟨n.val / 128, by omega⟩ t)) (e (ix4 b h ⟨n.val / 128, by omega⟩ t)))
    * gelu (∑ k : Fin 2048, u (ix2 n k) * h2 (ix3 b t k))

/-- The reference's result at an index. -/
theorem ref_at (h2 : FVec Ideal S1x256x2048 .bf16) (u v : FVec Ideal S16384x2048 .f32) (l e : FVec Ideal S1x8x128x256 .f32)
    (r q : FVec Ideal S1x8x128x256 .bf16) (x : FVec Ideal S1x256x2048 .f32) (gate : FVec Ideal S8x1x2048 .f32) (lg lb : FVec Ideal S2048 .f32)
    (s : Fin 8) (t : Fin 32) (T : Fin 256) (hT : T.val = s.val * 32 + t.val) (k : Fin 2048) :
    REF h2 u v l e r q x gate lg lb (ix3 s t k)
      = Rows.norm (fun d => Ideal.ofBits .f32 0x3F9837F0#32 * x (ix3 0 T d)
          + gate (ix3 s 0 d) * ∑ n : Fin 16384, v (ix2 n d) * ent h2 u l e r q 0 n T) k * lg (ix1 k) + lb (ix1 k) := by
  have hf : ∀ d : Fin 2048, ffn (mulf (weight l e r q) (gelus (activation h2 u))) v (ix3 0 T d) = ∑ n : Fin 16384, v (ix2 n d) * ent h2 u l e r q 0 n T := fun d => by
    rw [ffn_at]
    refine Finset.sum_congr rfl fun n _ => ?_
    rw [mul_comm]
    exact congrArg _ ((mulf_at _ _ 0 n T).trans (congrArg₂ (· * ·) (weight_at l e r q 0 n T)
      ((gelus_at _ 0 n T).trans (congrArg gelu (activation_at h2 u 0 n T)))))
  have hs : (fun d => stream x gate (ffn (mulf (weight l e r q) (gelus (activation h2 u))) v) (ix3 s t d))
      = fun d => Ideal.ofBits .f32 0x3F9837F0#32 * x (ix3 0 T d) + gate (ix3 s 0 d) * ∑ n : Fin 16384, v (ix2 n d) * ent h2 u l e r q 0 n T :=
    funext fun d => by rw [stream_at x gate _ s t T hT, hf]
  rw [← hs, ← normed_at]
  pointwise [REF]

end Cert.SamplePeer

end
-- ==== Proof.SamplePeer.lean ====
/- The experts' call on the sample: the accumulator after every grid point is the sum over the experts seen so far, so the
   block that the last point stores is the reference's result, its rows laid end to end. -/
module

public import proofs.«01_k».proof.Proof.Gen.Kernel6Ideal.Run
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.SamplePeerStep
public import proofs.«01_k».proof.Proof.SamplePeerRef

@[expose] public section

set_option maxRecDepth 16384

noncomputable section

open Idealize.ShloMosaic Idealize.ShloMosaic.TcCoe Idealize.SL.Sem
open Idealize.ShloMosaic.Pipeline (Dat)

namespace Cert.Kernel6Ideal.Value

open Cert.Kernel6Ideal Cert.Kernel6Ideal.Gen Cert.Peer Cert.SamplePeer

variable (m : (ℓ : Loc nD τ sig) → Buf (Elt Ideal) ℓ)

/-- Which block of its array each window holds at a grid point. -/
theorem idx : ∀ t : Fin cfg0.N, (win0_0.index t = ![0, 0, 0] ∧ win0_1.index t = ![t.val % 16, 0]
    ∧ win0_2.index t = ![0, t.val % 16] ∧ win0_3.index t = ![0, 0, t.val % 16, 0]
    ∧ win0_4.index t = ![0, 0, t.val % 16, 0]) ∧ win0_5.index t = ![0, 0, 0, 0]
    ∧ win0_6.index t = ![0, 0, 0, 0] ∧ win0_7.index t = ![0, 0, 0]
    ∧ win0_8.index t = ![0, 0, 0] ∧ win0_9.index t = ![0, 0] ∧ win0_10.index t = ![0, 0]
    ∧ win0_11.index t = ![0, 0, 0] :=
  (by decide +kernel : ∀ t : Fin grid0.N, _)

/-- The sum that a point adds, at a lane and a token. -/
theorem pay1_at (a : Vec Ideal S2048x256 .f32) (v : Vec Ideal S2048x1024 .bf16) (p : Vec Ideal S1024x256 .bf16) (d : Fin 2048) (t : Fin 256) :
    k0_pay1 (F := Ideal) a v p (ix2 d t) = a (ix2 d t) + ∑ r : Fin 1024, v (ix2 d r) * p (ix2 r t) := by
  pointwise [k0_pay1]

/-- The accumulator starts from zero. -/
theorem pay3_at (d : Fin 2048) (t : Fin 256) : k0_pay3 (F := Ideal) (ix2 d t) = 0 := by
  pointwise [k0_pay3]

/-- The stored block: the gated accumulator on top of the scaled residual stream, normalized. -/
theorem pay2_at (a : Vec Ideal S2048x256 .f32) (x g : Vec Ideal S1x256x2048 .f32) (lg lb : Vec Ideal S1x2048 .f32)
    (t : Fin 256) (k : Fin 2048) :
    k0_pay2 (F := Ideal) a x g lg lb (ix3 0 t k)
      = Rows.norm (fun d => Ideal.ofBits .f32 0x3F9837F0#32 * x (ix3 0 t d) + g (ix3 0 t d) * a (ix2 d t)) k * lg (ix2 0 k) + lb (ix2 0 k) := by
  pointwise [k0_pay2, Rows.norm, Rows.mean]

/-- The weight of expert `n` at a token, times the gelu of its activation, from the call's arguments. -/
abbrev entry (c : Dev nD) (n : Fin 16384) (T : Fin 256) : EReal :=
  ent (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) 0 n T

/-- An expert's lane of the second matrix. -/
abbrev down (c : Dev nD) (n : Fin 16384) (d : Fin 2048) : EReal := (m ((c : Thread nD τ).loc main_arg2) : FVec Ideal S16384x2048 .f32) (ix2 n d)

/-- What expert number `n` adds at a lane of a token, and nothing past the last expert. -/
def term (c : Dev nD) (T : Fin 256) (d : Fin 2048) (n : ℕ) : EReal :=
  if h : n < 16384 then down m c ⟨n, h⟩ d * entry m c ⟨n, h⟩ T else 0

/-- The point's experts are the reference's at the block's place. -/
theorem pval_at (c : Dev nD) (t : Fin cfg0.N) (r : Fin 1024) (n : Fin 16384) (hn : n.val = t.val % 16 * 1024 + r.val) (tk : Fin 256) :
    pval (iblk m c 0 t) (iblk m c 1 t) (iblk m c 3 t) (iblk m c 4 t) (iblk m c 5 t) (iblk m c 6 t) (ix2 r tk) = entry m c n tk := by
  have h0 : ∀ k : Fin 2048, (iblk m c 0 t : FVec Ideal S1x256x2048 .bf16) (ix3 0 tk k) = (m ((c : Thread nD τ).loc main_arg0) : FVec Ideal S1x256x2048 .bf16) (ix3 0 tk k) := fun k => by
    blk_ext [iblk, V, idx t]
  have h1 : ∀ k : Fin 2048, (iblk m c 1 t : FVec Ideal S1024x2048 .bf16) (ix2 r k) = (m ((c : Thread nD τ).loc main_arg1) : FVec Ideal S16384x2048 .f32) (ix2 n k) := fun k => by
    blk_point [iblk, V, idx t]
  have h3 : ∀ h : Fin 8, (iblk m c 3 t : FVec Ideal S1x8x8x256 .f32) (ix4 0 h ⟨r.val / 128, by omega⟩ tk) = (m ((c : Thread nD τ).loc main_arg3) : FVec Ideal S1x8x128x256 .f32) (ix4 0 h ⟨n.val / 128, by omega⟩ tk) := fun h => by
    blk_ext [iblk, V, idx t]
  have h4 : ∀ h : Fin 8, (iblk m c 4 t : FVec Ideal S1x8x8x256 .f32) (ix4 0 h ⟨r.val / 128, by omega⟩ tk) = (m ((c : Thread nD τ).loc main_arg4) : FVec Ideal S1x8x128x256 .f32) (ix4 0 h ⟨n.val / 128, by omega⟩ tk) := fun h => by
    blk_ext [iblk, V, idx t]
  have h5 : ∀ h : Fin 8, (iblk m c 5 t : FVec Ideal S1x8x128x256 .bf16) (ix4 0 h ⟨r.val % 128, by omega⟩ tk) = (m ((c : Thread nD τ).loc main_arg5) : FVec Ideal S1x8x128x256 .bf16) (ix4 0 h ⟨n.val % 128, by omega⟩ tk) := fun h => by
    blk_ext [iblk, V, idx t]
  have h6 : ∀ h : Fin 8, (iblk m c 6 t : FVec Ideal S1x8x128x256 .bf16) (ix4 0 h ⟨r.val % 128, by omega⟩ tk) = (m ((c : Thread nD τ).loc main_arg6) : FVec Ideal S1x8x128x256 .bf16) (ix4 0 h ⟨n.val % 128, by omega⟩ tk) := fun h => by
    blk_ext [iblk, V, idx t]
  show pent _ _ _ _ _ _ r tk = _
  unfold pent entry ent
  refine congrArg₂ (fun a b : EReal => a * b) (Finset.sum_congr rfl fun h _ => congr (congr (congr (congrArg wt (h5 h)) (h6 h)) (h3 h)) (h4 h)) (congrArg gelu ?_)
  exact Finset.sum_congr rfl fun k _ => congrArg₂ (fun a b : EReal => a * b) (h1 k) (h0 k)

/-- A matrix turned. -/
def turned (a : FVec Ideal S16384x2048 .f32) : FVec Ideal S2048x16384 .bf16 :=
  transpose S2048x16384 [1, 0] (truncf (F := Ideal) .bf16 a bitsLt_bf16_f32) transposes_S16384x2048_S2048x16384_1_0

/-- The second matrix turned, as the kernel reads it. -/
theorem host_down (c : Dev nD) : StableHlo.after [hostOps0].flatten (fun b => m (c, b)) (Proc.tc.devRef main_v4)
    = turned (m ((c : Thread nD τ).loc main_arg2)) := by
  simp only [hostOps0, List.flatten_cons, List.flatten_nil, List.append_nil, List.cons_append, List.nil_append]
  after_results <;> rfl

/-- The last norm's scale as one row, as the kernel reads it. -/
theorem host_scale (c : Dev nD) : StableHlo.after [hostOps0].flatten (fun b => m (c, b)) (Proc.tc.devRef main_v5)
    = shapeCast S1x2048 (m ((c : Thread nD τ).loc main_arg9) : FVec Ideal S2048 .f32) shapeCasts_S2048_S1x2048 := by
  simp only [hostOps0, List.flatten_cons, List.flatten_nil, List.append_nil, List.cons_append, List.nil_append]
  after_results <;> rfl

/-- The last norm's offset as one row, as the kernel reads it. -/
theorem host_offset (c : Dev nD) : StableHlo.after [hostOps0].flatten (fun b => m (c, b)) (Proc.tc.devRef main_v6)
    = shapeCast S1x2048 (m ((c : Thread nD τ).loc main_arg10) : FVec Ideal S2048 .f32) shapeCasts_S2048_S1x2048 := by
  simp only [hostOps0, List.flatten_cons, List.flatten_nil, List.append_nil, List.cons_append, List.nil_append]
  after_results <;> rfl

/-- A matrix turned, at an index. -/
theorem turned_at (a : FVec Ideal S16384x2048 .f32) (d : Fin 2048) (n : Fin 16384) :
    turned a (ix2 d n) = a (ix2 n d) := by
  pointwise [turned]

/-- A vector as one row, at an index. -/
theorem row_at (a : FVec Ideal S2048 .f32) (l : Fin 2048) : shapeCast S1x2048 a shapeCasts_S2048_S1x2048 (ix2 0 l) = a (ix1 l) := by
  pointwise

/-- What a point adds at a lane of a token, as a run of 1024 experts. -/
theorem added (c : Dev nD) (t : Fin cfg0.N) (tk : Fin 256) (d : Fin 2048) (a : Vec Ideal S2048x256 .f32) :
    k0_pay1 (F := Ideal) a (iblk m c 2 t) (pval (iblk m c 0 t) (iblk m c 1 t) (iblk m c 3 t) (iblk m c 4 t) (iblk m c 5 t) (iblk m c 6 t)) (ix2 d tk)
      = a (ix2 d tk) + ∑ x ∈ Finset.range 1024, term m c tk d (1024 * (t.val % 16) + x) := by
  rw [pay1_at, Finset.sum_range]
  refine congrArg (fun v : EReal => _ + v) (Finset.sum_congr rfl fun r _ => ?_)
  have hn : 1024 * (t.val % 16) + r.val < 16384 := by omega
  unfold term
  rw [dif_pos hn]
  have h2 : (iblk m c 2 t : FVec Ideal S2048x1024 .bf16) (ix2 d r) = (m ((c : Thread nD τ).loc main_arg2) : FVec Ideal S16384x2048 .f32) (ix2 ⟨1024 * (t.val % 16) + r.val, hn⟩ d) := by
    have e : (((win0_2.blk t).view.emb (ix2 d r)) : S2048x16384.Idx) = ix2 d (⟨1024 * (t.val % 16) + r.val, hn⟩ : Fin 16384) := by
      blk_ext [idx t]
    exact (congrFun (host_down m c) _).trans ((congrArg _ e).trans (turned_at _ d _))
  exact congrArg₂ (fun a b : EReal => a * b) h2 (pval_at m c t r ⟨_, hn⟩ (by show 1024 * (t.val % 16) + r.val = _; omega) tk)

/-- The accumulator after a point: the sum over the experts of the point's block and of the blocks before it. -/
theorem acc_at (c : Dev nD) (tk : Fin 256) (d : Fin 2048) : ∀ (n : ℕ) (hn : n < cfg0.N),
    ((outsAt0 m c n hn).2 : FVec Ideal S2048x256 .f32) (ix2 d tk) = ∑ x ∈ Finset.range (1024 * (n % 16) + 1024), term m c tk d x := by
  have hfirst : ∀ (t : Fin cfg0.N), t.val % 16 = 0 →
      ((outsAt0 m c t.val t.isLt).2 : FVec Ideal S2048x256 .f32) (ix2 d tk) = ∑ x ∈ Finset.range (1024 * (t.val % 16) + 1024), term m c tk d x := fun t h0 => by
    rw [acc_A m c t h0 (by omega), added m c t tk d, pay3_at, Finset.sum_range_add, h0]
    rfl
  have hnext : ∀ (t : Fin cfg0.N), ¬t.val % 16 = 0 →
      ((outsAt0 m c t.val t.isLt).2 : FVec Ideal S2048x256 .f32) (ix2 d tk)
        = ((outsAt0 m c (t.val - 1) (Nat.lt_of_le_of_lt (Nat.sub_le _ _) t.isLt)).2 : FVec Ideal S2048x256 .f32) (ix2 d tk)
          + ∑ x ∈ Finset.range 1024, term m c tk d (1024 * (t.val % 16) + x) := fun t h0 => by
    by_cases h1 : t.val % 16 = 15
    · rw [acc_C m c t h0 h1, added m c t tk d]
    · rw [acc_B m c t h0 h1, added m c t tk d]
  intro n
  induction n with
  | zero => exact fun hn => hfirst ⟨0, hn⟩ rfl
  | succ n ih =>
    intro hn
    by_cases h0 : (n + 1) % 16 = 0
    · exact hfirst ⟨n + 1, hn⟩ h0
    · refine (hnext ⟨n + 1, hn⟩ h0).trans ?_
      rw [Finset.sum_range_add]
      refine congrArg (fun v : EReal => v + _) ((ih (Nat.lt_of_succ_lt hn)).trans ?_)
      rw [show 1024 * (n % 16) + 1024 = 1024 * ((n + 1) % 16) by omega]

/-- Every row's gate, as the kernel reads it. -/
theorem host_gate (c : Dev nD) : StableHlo.after [hostOps0].flatten (fun b => m (c, b)) (Proc.tc.devRef main_v1)
    = shapeCast S1x256x2048 (broadcastInDim S8x32x2048 ![0, 1, 2] bcast_S8x1x2048_S8x32x2048_0_1_2
        (m ((c : Thread nD τ).loc main_arg8) : FVec Ideal S8x1x2048 .f32)) shapeCasts_S8x32x2048_S1x256x2048 := by
  simp only [hostOps0, List.flatten_cons, List.flatten_nil, List.append_nil, List.cons_append, List.nil_append]
  after_results <;> rfl

/-- One row per sequence, repeated for its rows and laid end to end, at an index. -/
theorem gate_at (a : FVec Ideal S8x1x2048 .f32) (h : S8x32x2048.ShapeCasts S1x256x2048) (r : Fin 256) (l : Fin 2048) :
    shapeCast S1x256x2048 (broadcastInDim S8x32x2048 ![0, 1, 2] bcast_S8x1x2048_S8x32x2048_0_1_2 a) h (ix3 0 r l)
      = a (ix3 ⟨r.val / 32, by omega⟩ 0 l) := by
  pointwise

/-- The sample's rows end to end. -/
def flat (a : FVec Ideal S8x32x2048 .f32) : FVec Ideal S1x256x2048 .f32 := fun i =>
  a (ix3 (⟨(i 1).val / 32, Nat.div_lt_of_lt_mul (i 1).isLt⟩ : Fin 8) (⟨(i 1).val % 32, Nat.mod_lt _ (by decide)⟩ : Fin 32) (i 2))

/-- The output after the run is the reference's result, its rows end to end. -/
theorem final (c : Dev nD) : (dats m 0 c).arrAt 11 cfg0.N
    = flat (REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))) := by
  refine (dats m 0 c).arrAt_eq_of_covers 11 _ (by decide +kernel) fun t hf y => ?_
  have h1 : t.val % 16 = 15 := (flush0_11 t).mp hf
  blk_simp
  rw [after0_11, out_C m c t (by omega) h1]
  obtain ⟨z, r, k, rfl⟩ : ∃ (z : Fin 1) (r : Fin 256) (k : Fin 2048), y = ix3 z r k := ⟨y 0, y 1, y 2, eq_ix3 y⟩
  obtain rfl : z = 0 := Subsingleton.elim _ _
  have hp : (((View.whole main_v7).slice (win0_11.rect t)).emb (ix3 0 r k) : S1x256x2048.Idx) = ix3 (0 : Fin 1) r k := by
    blk_ext [idx t]
  have h7 : ∀ l : Fin 2048, (iblk m c 7 t : FVec Ideal S1x256x2048 .f32) (ix3 0 r l) = (m ((c : Thread nD τ).loc main_arg7) : FVec Ideal S1x256x2048 .f32)
      (ix3 0 r l) := fun l => by
    blk_ext [iblk, V, idx t]
  have h8 : ∀ l : Fin 2048, (iblk m c 8 t : FVec Ideal S1x256x2048 .f32) (ix3 0 r l) = (m ((c : Thread nD τ).loc main_arg8) : FVec Ideal S8x1x2048 .f32)
      (ix3 ⟨r.val / 32, by omega⟩ 0 l) := fun l => by
    have e : (((win0_8.blk t).view.emb (ix3 0 r l)) : S1x256x2048.Idx) = ix3 (0 : Fin 1) r l := by
      blk_ext [idx t]
    exact (congrFun (host_gate m c) _).trans ((congrArg _ e).trans (gate_at _ _ r l))
  have h9 : ∀ l : Fin 2048, (iblk m c 9 t : FVec Ideal S1x2048 .f32) (ix2 0 l) = (m ((c : Thread nD τ).loc main_arg9) : FVec Ideal S2048 .f32) (ix1 l) := fun l => by
    have e : (((win0_9.blk t).view.emb (ix2 0 l)) : S1x2048.Idx) = ix2 (0 : Fin 1) l := by
      blk_ext [idx t]
    exact (congrFun (host_scale m c) _).trans ((congrArg _ e).trans (row_at _ l))
  have h10 : ∀ l : Fin 2048, (iblk m c 10 t : FVec Ideal S1x2048 .f32) (ix2 0 l) = (m ((c : Thread nD τ).loc main_arg10) : FVec Ideal S2048 .f32) (ix1 l) := fun l => by
    have e : (((win0_10.blk t).view.emb (ix2 0 l)) : S1x2048.Idx) = ix2 (0 : Fin 1) l := by
      blk_ext [idx t]
    exact (congrFun (host_offset m c) _).trans ((congrArg _ e).trans (row_at _ l))
  have ha : ∀ d : Fin 2048, ((outsAt0 m c t.val t.isLt).2 : FVec Ideal S2048x256 .f32) (ix2 d r) = ∑ n : Fin 16384, down m c n d * entry m c n r := fun d => by
    rw [acc_at m c r d t.val t.isLt, h1, Finset.sum_range]
    refine Finset.sum_congr rfl fun n _ => ?_
    unfold term
    rw [dif_pos n.isLt]
  refine (pay2_at _ _ _ _ _ r k).trans ?_
  refine Eq.trans ?_ (congrArg _ hp.symm)
  refine Eq.trans ?_ (ref_at _ _ _ _ _ _ _ _ _ _ _ ⟨r.val / 32, by omega⟩ ⟨r.val % 32, by omega⟩ r (by show r.val = r.val / 32 * 32 + r.val % 32; omega) k).symm
  refine congrArg₂ (fun a b : EReal => a + b) (congrArg₂ (fun a b : EReal => a * b) ?_ (h9 k)) (h10 k)
  refine congrArg (fun f => Rows.norm f k) (funext fun d => ?_)
  exact congrArg₂ (fun a b : EReal => a + b) (congrArg (fun b : EReal => _ * b) (h7 d)) (congrArg₂ (fun a b : EReal => a * b) (h8 d) (ha d))

/-- Cut back in its sequences, the result is the reference's. -/
theorem unflat (a : FVec Ideal S8x32x2048 .f32) (h : S1x256x2048.ShapeCasts S8x32x2048) : shapeCast S8x32x2048 (flat a) h = a := by
  funext i
  obtain ⟨b, r, k, rfl⟩ : ∃ (b : Fin 8) (r : Fin 32) (k : Fin 2048), i = ix3 b r k := ⟨i 0, i 1, i 2, eq_ix3 i⟩
  refine Eq.trans (b := flat a (ix3 0 ⟨b.val * 32 + r.val, by omega⟩ k)) ?_ (congrArg a ?_)
  · pointwise
  · refine congrArg₂ (fun x y => ix3 x y k) (Fin.ext ?_) (Fin.ext ?_)
    · show (b.val * 32 + r.val) / 32 = b.val
      omega
    · show (b.val * 32 + r.val) % 32 = r.val
      omega

end Cert.Kernel6Ideal.Value

end
-- ==== Proof.SamplePeerCall.lean ====
/- The value claim of the experts' call on the sample: the two runs side by side. -/
module

public import proofs.«01_k».proof.Defs
public import proofs.«01_k».proof.Proof.SamplePeer
public import proofs.«01_k».proof.Proof.Gen.Reference6Ideal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

set_option maxHeartbeats 1600000 in
/-- The experts' kernel on the sample leaves the reference's result: the residual stream plus the gated sum of the experts, normalized. -/
theorem sample_peer_algebraic : Cert.algebraic_Kernel6Ideal_Reference6Ideal (hKernel6Ideal := Cert.Kernel6Ideal.Gen.facts) (hReference6Ideal := Cert.Reference6Ideal.Gen.facts) := by
  pair_intro
  · run_from Cert.Kernel6Ideal.Value.run m g
  · run_from Cert.Reference6Ideal.Value.run m' g'
    obtain ⟨h0, h1, h2, h3, h4, h5, h6, h7, h8, h9, h10⟩ := hagree c
    rw [Cert.SamplePeer.ref_eq, h0, h1, h2, h3, h4, h5, h6, h7, h8, h9, h10]
    rw [show Cert.Kernel6Ideal.Value.reg_main_v7 m c = _ from Cert.Kernel6Ideal.Value.final m c, Cert.Kernel6Ideal.Value.unflat]

end Cert.Proof

end
-- ==== Proof.AttnMath.lean ====
/- The softmax of one query's row, on the extended reals: a row over all the keys, and the band of 640 keys that holds
   every key the query sees, give the same mean of the values. -/
module

public import Idealize.ShloMosaic.Lib.Pipeline.ValueKit
public import Idealize.ShloMosaic.Lib.Pointwise

@[expose] public section

set_option maxRecDepth 16384

noncomputable section

open Idealize.ShloMosaic

namespace Cert.Attn

/-- Query `p` sees key `k`: the key's chunk of 64 is the query's or one of the eight before it. -/
def Seen (p k : ℕ) : Prop := k / 64 ≤ p / 64 ∧ p / 64 ≤ k / 64 + 8

instance (p k : ℕ) : Decidable (Seen p k) := inferInstanceAs (Decidable (_ ∧ _))

/-- The bias table's column for query `p` and key `k`: their distance, clipped to [-63, 128], plus 63. -/
def tableSlot (p k : ℕ) : Fin 192 := ⟨min 191 (p + 63 - k), by omega⟩

/-- The attention's scale. -/
def scale : EReal := Ideal.ofBits FTy.f32 0x3DB504F3#32

/-- The score of a query's vector and a key's, with the bias of the head at their distance. -/
def pairScore (q k : Fin 128 → EReal) (r : EReal) : EReal := (∑ e, q e * k e) * scale + r

/-- Query `p`'s row of scores over the keys: minus infinity where the query doesn't see the key. -/
def keyRow (q : Fin 128 → EReal) (k : Fin 8192 → Fin 128 → EReal) (r : Fin 192 → EReal) (p : ℕ) : Fin 8192 → EReal := fun j =>
  if Seen p j.val then pairScore q (k j) (r (tableSlot p j.val)) else ⊥

/-- A row's maximum. -/
def rowTop {n : ℕ} (x : Fin n → EReal) : EReal := (Finset.univ : Finset (Fin n)).fold max ⊥ x

/-- A row's exponential at a lane: of the lane less the maximum. -/
def lift {n : ℕ} (x : Fin n → EReal) (k : Fin n) : EReal := Ideal.exp (x k - rowTop x)

/-- The mean of the values under the row's softmax: every weight divided by the sum first. -/
def softmax {n : ℕ} (x v : Fin n → EReal) : EReal := ∑ k, v k * Ideal.div (lift x k) (∑ j, lift x j)

/-- The mean of the values under the row's softmax: the sums divided at the end. -/
def softmaxLate {n : ℕ} (x v : Fin n → EReal) : EReal := Ideal.div (∑ k, lift x k * v k) (∑ j, lift x j)

/-- Every lane is at most the maximum. -/
theorem le_rowTop {n : ℕ} (x : Fin n → EReal) (k : Fin n) : x k ≤ rowTop x :=
  Finset.le_sup (f := x) (Finset.mem_univ k)

/-- The maximum is at most what bounds every lane. -/
theorem rowTop_le {n : ℕ} (x : Fin n → EReal) (a : EReal) (h : ∀ k, x k ≤ a) : rowTop x ≤ a :=
  Finset.sup_le (f := x) fun k _ => h k

/-- A nonempty row has a lane at its maximum. -/
theorem exists_rowTop {n : ℕ} (x : Fin n → EReal) (k : Fin n) : ∃ j, x j = rowTop x := by
  obtain ⟨j, _, hj⟩ := Finset.exists_mem_eq_sup (Finset.univ : Finset (Fin n)) ⟨k, Finset.mem_univ k⟩ x
  exact ⟨j, hj.symm⟩

/-- The exponential of minus infinity is zero. -/
theorem lift_bot {n : ℕ} (x : Fin n → EReal) (k : Fin n) (h : x k = ⊥) : lift x k = 0 := by
  unfold lift; rw [h, EReal.bot_sub]; rfl

/-- No exponential is negative. -/
theorem exp_nonneg (a : EReal) : 0 ≤ Ideal.exp a := by
  induction a with
  | bot => exact le_refl _
  | top => exact OrderTop.le_top _
  | coe r => exact EReal.coe_nonneg.2 (Real.exp_nonneg r)

/-- No inverse is plus infinity. -/
theorem inv_ne_top (a : EReal) : a⁻¹ ≠ ⊤ := by
  induction a with
  | bot => rw [EReal.inv_bot]; exact EReal.zero_ne_top
  | top => rw [EReal.inv_top]; exact EReal.zero_ne_top
  | coe r => rw [← EReal.coe_inv]; exact EReal.coe_ne_top _

/-- A nonnegative number below infinity distributes over a sum. -/
theorem sum_mul_of_nonneg {n : ℕ} (f : Fin n → EReal) (c : EReal) (h0 : 0 ≤ c) (h1 : c ≠ ⊤) : (∑ k, f k) * c = ∑ k, f k * c := by
  induction (Finset.univ : Finset (Fin n)) using Finset.induction_on with
  | empty => simp
  | insert a s ha ih =>
    rw [Finset.sum_insert ha, Finset.sum_insert ha, EReal.right_distrib_of_nonneg_of_ne_top h0 h1, ih]

/-- In a row without plus infinity that has a number, every exponential is below infinity and one of them is 1. -/
theorem lift_finite {n : ℕ} (x : Fin n → EReal) (h : ∀ k, x k ≠ ⊤) (k₀ : Fin n) (h₀ : x k₀ ≠ ⊥) :
    (∀ k, lift x k ≠ ⊤) ∧ ∃ k, lift x k = 1 := by
  obtain ⟨j, hj⟩ := exists_rowTop x k₀
  have t1 : rowTop x ≠ ⊤ := hj ▸ h j
  have t0 : rowTop x ≠ ⊥ := fun e => h₀ (le_bot_iff.1 (e ▸ le_rowTop x k₀))
  obtain ⟨M, hM⟩ : ∃ r : ℝ, rowTop x = r := ⟨_, (EReal.coe_toReal t1 t0).symm⟩
  refine ⟨fun k => ?_, j, ?_⟩
  · unfold lift
    rw [hM]
    induction hk : x k with
    | bot => rw [EReal.bot_sub]; exact EReal.zero_ne_top
    | top => exact absurd hk (h k)
    | coe r => rw [← EReal.coe_sub]; exact EReal.coe_ne_top _
  · unfold lift
    rw [hj, hM, ← EReal.coe_sub, sub_self]
    show ((Real.exp 0 : ℝ) : EReal) = 1
    rw [Real.exp_zero]; rfl

/-- Dividing every weight and dividing the sums give one mean, in a row without plus infinity that has a number. -/
theorem softmaxLate_eq {n : ℕ} (x v : Fin n → EReal) (h : ∀ k, x k ≠ ⊤) (k₀ : Fin n) (h₀ : x k₀ ≠ ⊥) :
    softmaxLate x v = softmax x v := by
  obtain ⟨hf, j, hj⟩ := lift_finite x h k₀ h₀
  have hL : (1 : EReal) ≤ ∑ k, lift x k := hj ▸ Finset.single_le_sum (f := lift x) (fun k _ => exp_nonneg (x k - rowTop x)) (Finset.mem_univ j)
  have hne : (∑ k, lift x k) ≠ 0 := fun e => by rw [e] at hL; exact absurd hL (by norm_num)
  have hpos : 0 ≤ (∑ k, lift x k)⁻¹ := EReal.inv_nonneg_of_nonneg (le_trans zero_le_one hL)
  have hinv : (∑ k, lift x k)⁻¹ ≠ ⊤ := fun e => by
    exact inv_ne_top _ e
  unfold softmaxLate softmax
  simp only [Ideal.div, if_neg hne]
  rw [sum_mul_of_nonneg _ _ hpos hinv]
  exact Finset.sum_congr rfl fun k _ => by rw [mul_comm (lift x k), mul_assoc]

/-- A sum over the keys is the sum over a band that holds every key whose term isn't zero. -/
theorem sum_band (F : Fin 8192 → EReal) (G : Fin 640 → EReal) (p : ℕ) (hp : p + 128 ≤ 8192)
    (hF : ∀ k : Fin 8192, k.val + 512 < p ∨ p + 128 ≤ k.val → F k = 0) (hG : ∀ c : Fin 640, p + c.val < 512 → G c = 0)
    (h : ∀ (c : Fin 640) (hc : 512 ≤ p + c.val), G c = F ⟨p + c.val - 512, by omega⟩) : ∑ c, G c = ∑ k, F k := by
  refine Finset.sum_bij_ne_zero (fun c _ hc => ⟨p + c.val - 512, by omega⟩) (fun _ _ _ => Finset.mem_univ _) ?_ ?_ ?_
  · intro a _ ha b _ hb e
    have h1 : 512 ≤ p + a.val := by by_contra h'; exact ha (hG a (by omega))
    have h2 : 512 ≤ p + b.val := by by_contra h'; exact hb (hG b (by omega))
    have := Fin.mk.inj e
    exact Fin.ext (by omega)
  · intro k _ hk
    have h1 : ¬ (k.val + 512 < p ∨ p + 128 ≤ k.val) := fun h' => hk (hF k h')
    have h2 := h ⟨k.val + 512 - p, by omega⟩ (by simp only; omega)
    have h3 : (⟨p + (k.val + 512 - p) - 512, by omega⟩ : Fin 8192) = k := Fin.ext (by simp only; omega)
    simp only [h3] at h2
    exact ⟨⟨k.val + 512 - p, by omega⟩, Finset.mem_univ _, by rw [h2]; exact hk, h3⟩
  · intro c _ hc
    exact h c (by by_contra h'; exact hc (hG c (by omega)))

/-- The maximum over the keys is the maximum over such a band. -/
theorem rowTop_band (x : Fin 8192 → EReal) (y : Fin 640 → EReal) (p : ℕ) (hp : p + 128 ≤ 8192)
    (hx : ∀ k : Fin 8192, k.val + 512 < p ∨ p + 128 ≤ k.val → x k = ⊥) (hy : ∀ c : Fin 640, p + c.val < 512 → y c = ⊥)
    (h : ∀ (c : Fin 640) (hc : 512 ≤ p + c.val), y c = x ⟨p + c.val - 512, by omega⟩) : rowTop y = rowTop x := by
  refine le_antisymm (rowTop_le _ _ fun c => ?_) (rowTop_le _ _ fun k => ?_)
  · by_cases hc : p + c.val < 512
    · rw [hy c hc]; exact bot_le
    · rw [h c (by omega)]; exact le_rowTop _ _
  · by_cases hk : k.val + 512 < p ∨ p + 128 ≤ k.val
    · rw [hx k hk]; exact bot_le
    · have h2 := h ⟨k.val + 512 - p, by omega⟩ (by simp only; omega)
      have h3 : (⟨p + (k.val + 512 - p) - 512, by omega⟩ : Fin 8192) = k := Fin.ext (by simp only; omega)
      simp only [h3] at h2
      rw [← h2]; exact le_rowTop _ _

/-- A band that holds every key seen gives the row's softmax mean. -/
theorem softmax_band (x v : Fin 8192 → EReal) (y w : Fin 640 → EReal) (p : ℕ) (hp : p + 128 ≤ 8192)
    (hx : ∀ k : Fin 8192, k.val + 512 < p ∨ p + 128 ≤ k.val → x k = ⊥) (hy : ∀ c : Fin 640, p + c.val < 512 → y c = ⊥)
    (h : ∀ (c : Fin 640) (hc : 512 ≤ p + c.val), y c = x ⟨p + c.val - 512, by omega⟩)
    (hv : ∀ (c : Fin 640) (hc : 512 ≤ p + c.val), w c = v ⟨p + c.val - 512, by omega⟩)
    (hn : ∀ k, x k ≠ ⊤) (k₀ : Fin 8192) (h₀ : x k₀ ≠ ⊥) : softmaxLate y w = softmax x v := by
  rw [← softmaxLate_eq x v hn k₀ h₀]
  have ht := rowTop_band x y p hp hx hy h
  have hl : ∀ (c : Fin 640) (hc : 512 ≤ p + c.val), lift y c = lift x ⟨p + c.val - 512, by omega⟩ := fun c hc => by
    unfold lift; rw [ht, h c hc]
  unfold softmaxLate
  refine congrArg₂ Ideal.div ?_ ?_
  · refine sum_band _ _ p hp (fun k hk => ?_) (fun c hc => ?_) fun c hc => ?_
    · rw [lift_bot x k (hx k hk), zero_mul]
    · rw [lift_bot y c (hy c hc), zero_mul]
    · rw [hl c hc, hv c hc]
  · exact sum_band _ _ p hp (fun k hk => lift_bot x k (hx k hk)) (fun c hc => lift_bot y c (hy c hc)) hl

end Cert.Attn

end
-- ==== Proof.AttnBias.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.AttnMath

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The bias of head `h` at row `r` and column `c` of a tile's band: the table's entry at the distance between them where the column's
    chunk is visible to the row's, −∞ elsewhere. -/
def bandBias (rel : Vec Ideal S16x192 .f32) (h : Fin 16) (r : Fin 128) (c : Fin 640) : EReal :=
  if r.val / 64 ≤ c.val / 64 ∧ c.val / 64 ≤ r.val / 64 + 8 then rel (ix2 h (tableSlot (r.val + 512) c.val)) else ⊥

/-- The chunks visible in a band: the words' order is the numbers'. -/
theorem chunk_visible : ∀ a : Fin 2, ∀ b : Fin 10, IntOp.andi (IntOp.cmpi CmpIPredicate.sle (BitVec.ofNat 32 b.val) (IntOp.addi (BitVec.ofNat 32 a.val) 8#32))
    (IntOp.cmpi CmpIPredicate.sge (BitVec.ofNat 32 b.val) (IntOp.subi (IntOp.addi (BitVec.ofNat 32 a.val) 8#32) 8#32))
      = BitVec.ofBool (decide (a.val ≤ b.val ∧ b.val ≤ a.val + 8)) := by decide +kernel

/-- The division by 64 of the words below 640, written with the sign's correction. -/
theorem band_floor : ∀ c : Fin 640, Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) = BitVec.ofNat 32 (c.val / 64) := by decide +kernel

/-- The kernel's mask of a band at a row and a column. -/
theorem visible_at (r : Fin 128) (c : Fin 640) : k0_pay7 k0_pay3 k0_pay4 k0_pay5 k0_pay6 0#32 (ix2 r c)
    = BitVec.ofBool (decide (r.val / 64 ≤ c.val / 64 ∧ c.val / 64 ≤ r.val / 64 + 8)) := by
  pointwise [k0_pay7, k0_pay3, k0_pay4, k0_pay5, k0_pay6]
  rw [band_floor c, band_floor ⟨r.val, by omega⟩]
  exact chunk_visible ⟨r.val / 64, by omega⟩ ⟨c.val / 64, by omega⟩

/-- The words of the slots of a band. -/
def slotWords : IVec S128x640 32 :=
  addi (minsi (broadcast S128x640 128#32) (maxsi (broadcast S128x640 4294967233#32)
    (subi (addi (iota .tc S128x640 32 [0] iota_S128x640_d0_w32) (broadcast S128x640 512#32)) (iota .tc S128x640 32 [1] iota_S128x640_d1_w32))))
    (broadcast S128x640 63#32)

/-- The clipped distance in a band, from the distance as a word. -/
theorem band_clip : ∀ d : Fin 767, IntOp.addi
      (IntOp.minsi (128#32) (IntOp.maxsi (4294967233#32) (BitVec.ofNat 32 d.val - 127#32))) 63#32
    = BitVec.ofNat 32 (min 191 (d.val + 63 - 127)) := by decide +kernel

/-- The slot's word at a row and a column. -/
theorem slotWords_at (r : Fin 128) (c : Fin 640) : slotWords (ix2 r c) = BitVec.ofNat 32 (tableSlot (r.val + 512) c.val).val := by
  pointwise [slotWords]
  have h : IntOp.subi (IntOp.addi (BitVec.ofNat 32 r.val) 512#32) (BitVec.ofNat 32 c.val) = BitVec.ofNat 32 (r.val + 639 - c.val) - 127#32 := by
    show BitVec.ofNat 32 r.val + 512#32 - BitVec.ofNat 32 c.val = _
    have := r.isLt
    have := c.isLt
    bv_omega
  rw [h]
  refine (band_clip ⟨r.val + 639 - c.val, by omega⟩).trans (congrArg (BitVec.ofNat 32) ?_)
  show min 191 (r.val + 639 - c.val + 63 - 127) = min 191 (r.val + 512 + 63 - c.val)
  omega

/-- A scalar read of the table. -/
theorem table_read {arg3 : Memref sig .tc .smem S16x192 .f32} (h3 : arg3.IsWhole) (X : Vec Ideal S16x192 .f32) (off : Fin 2 → ℕ)
    (inb : ∀ a, off a + S1x1.size a ≤ S16x192.size a) (hp) (a : Fin 16) (b : Fin 192) (ha : off 0 = a.val) (hb : off 1 = b.val) :
    View.readAt (Elt Ideal) arg3.view (Rect.unit (s := S16x192) off S1x1.size inb).toLoadRect (h3.unread X) (Shape.Idx.first hp) = X (ix2 a b) := by
  rw [View.readAt_apply, h3.read_unread]
  refine congrArg X ?_
  funext d
  refine Fin.ext ?_
  match d with
  | ⟨0, _⟩ => exact ha
  | ⟨1, _⟩ => exact hb

/-- The comparison of a slot with a trip's number. -/
theorem slot_eq : ∀ s n : Fin 192, IntOp.cmpi CmpIPredicate.eq (BitVec.ofNat 32 s.val) (Scf.iv (0#32) (1#32) n.val)
    = BitVec.ofBool (decide (s.val = n.val)) := by decide +kernel

/-- One loop over the table: what it carries after 192 trips. -/
theorem loop_at (f : ℕ → FVec Ideal S128x640 .f32) (rel : Fin 192 → EReal) (h0 : ∀ y, f 0 y = 0)
    (hs : ∀ k : Fin 192, f (k.val + 1) = addf (f k.val) (select (cmpi .eq slotWords (broadcast S128x640 (Scf.iv 0#32 1#32 k.val)))
      (broadcast S128x640 (rel k : Ideal .f32)) (broadcast S128x640 (Scalar.ofBits .f32 0x00000000#32)))) (r : Fin 128) (c : Fin 640) :
    f 192 (ix2 r c) = rel (tableSlot (r.val + 512) c.val) := by
  have step : ∀ n, n ≤ 192 → f n (ix2 r c) = if (tableSlot (r.val + 512) c.val).val < n then rel (tableSlot (r.val + 512) c.val) else 0 := by
    intro n
    induction n with
    | zero => intro _; rw [h0]; rfl
    | succ n ih =>
      intro hn
      rw [hs ⟨n, hn⟩]
      pointwise
      rw [ih (by omega), slotWords_at]
      rw [slot_eq (tableSlot (r.val + 512) c.val) ⟨n, hn⟩]
      rcases lt_trichotomy (tableSlot (r.val + 512) c.val).val n with h | h | h
      · rw [if_pos h, if_pos (by omega), decide_eq_false (by simp; omega)]
        exact add_zero _
      · rw [if_neg (by omega), if_pos (by omega), decide_eq_true (by exact h)]
        exact (zero_add _).trans (congrArg rel (Fin.ext h.symm))
      · rw [if_neg (by omega), if_neg (by omega), decide_eq_false (by simp; omega)]
        exact add_zero _
  rw [step 192 le_rfl, if_pos (tableSlot _ _).isLt]

/-- One head's piece of the bias at a row and a column. -/
theorem piece_at (f : ℕ → FVec Ideal S128x640 .f32) (table : Vec Ideal S16x192 .f32) (h : Fin 16) (h0 : ∀ y, f 0 y = 0)
    (hs : ∀ k : Fin 192, f (k.val + 1) = addf (f k.val) (select (cmpi .eq slotWords (broadcast S128x640 (Scf.iv 0#32 1#32 k.val)))
      (broadcast S128x640 (table (ix2 h k) : Ideal .f32)) (broadcast S128x640 (Scalar.ofBits .f32 0x00000000#32)))) (r : Fin 128) (c : Fin 640) :
    shapeCast S1x128x640 (select (k0_pay7 k0_pay3 k0_pay4 k0_pay5 k0_pay6 0#32) (f 192)
      (broadcast S128x640 (Named.named κ "mask" 0xF149F2CA#32 : Ideal .f32))) shapeCasts_S128x640_S1x128x640 (ix3 0 r c) = bandBias table h r c := by
  pointwise
  rw [visible_at, loop_at f (fun k => table (ix2 h k)) h0 hs, bandBias]
  by_cases hv : r.val / 64 ≤ c.val / 64 ∧ c.val / 64 ≤ r.val / 64 + 8
  · rw [if_pos hv, decide_eq_true hv]; rfl
  · rw [if_neg hv, decide_eq_false hv]; rfl

/-- Which block of its array each window holds at a grid point. -/
theorem idx : ∀ t : Fin cfg0.N, win0_0.index t = ![0, 0] ∧ win0_1.index t = ![t.val / 16 % 4, t.val % 16, 8 + t.val / 64]
    ∧ win0_2.index t = ![t.val / 16 % 4, t.val % 16, 12 + t.val / 64] ∧ win0_3.index t = ![t.val / 16 % 4, t.val % 16, 16 + t.val / 64]
    ∧ win0_4.index t = ![t.val / 16 % 4, t.val % 16, 24 + t.val / 64] ∧ win0_5.index t = ![t.val / 16 % 4, t.val % 16, t.val / 64] :=
  (by decide +kernel : ∀ t : Fin grid0.N, _)

/-- The table's window is the whole table. -/
theorem table_blk (c : Dev nD) (t : Fin cfg0.N) : (iblk m c 0 t : FVec Ideal S16x192 .f32) = m ((c : Thread nD τ).loc main_arg1) := by
  funext y
  rw [eq_ix2 y]
  blk_ext [iblk, V, idx t]

/-- The number of a group's head as a word. -/
theorem head_word : ∀ g : Fin 4, ∀ h : Fin 4, (Scalar.addi (Scalar.muli (BitVec.ofNat 32 g.val) 4#32) (BitVec.ofNat 32 h.val)).toNat
    = 4 * g.val + h.val := by decide

/-- The number of a trip as a word. -/
theorem trip_word : ∀ k : Fin 192, (Scf.iv 0#32 1#32 k.val).toNat = k.val := by decide

/-- The group of a grid point. -/
theorem group_val (t : Fin cfg0.N) : (grid0.coords t 0).val = t.val / 64 := by
  have ht : t.val < 256 := lt_of_lt_of_eq t.isLt N_0
  refine (Pipeline.Grid.coords_val t 0 (S := 64) (B := 4) (by decide) rfl).trans ?_
  omega

/-- The loops' trips. -/
theorem trips_val : Scf.trips 0#32 (Scalar.addi 0#32 192#32) 1#32 = 192 := by decide

/-- The bias the first point of a group stores. -/
theorem bias_A_at (c : Dev nD) (t : Fin cfg0.N) (h0 : t.val % 64 = 0) (h1 : t.val % 16 = 0) (h2 : ¬1 ≤ t.val % 16)
    (h : Fin 4) (r : Fin 128) (col : Fin 640) (ht : t.val < 256) :
    (outsAt0 m c t.val t.isLt).2.1 (ix3 h r col) = bandBias (m ((c : Thread nD τ).loc main_arg1)) ⟨4 * (t.val / 64) + h.val, by omega⟩ r col := by
  rw [outsAt0_A m c t h0 h1 h2]; frame_out
  canon_tiles x hx
  case piece0 =>
    obtain ⟨a, b, d, rfl⟩ : ∃ (a : Fin 1) (b : Fin 128) (d : Fin 640), x = ix3 a b d := ⟨_, _, _, eq_ix3 x⟩
    obtain rfl : a = 0 := Subsingleton.elim _ _
    obtain rfl : h = 3 := Fin.ext hx0
    obtain rfl : r = b := Fin.ext hx1
    obtain rfl : col = d := Fin.ext hx2
    rw [trips_val, table_blk]
    refine piece_at _ _ _ (fun y => by show k0_pay18 y = 0; pointwise [k0_pay18]) (fun k => (st_k0_t4_succ (k := ⟨k.val, k.isLt⟩) ..).trans ?_) r col
    unfold tripR_k0_t4 trip_k0_t4
    dsimp only
    unfold trip_k0_t4.sl.r
    rw [table_read _ _ _ _ _ ⟨4 * (t.val / 64) + 3, by omega⟩ k ((head_word (grid0.coords t 0) 3).trans (by rw [group_val]; rfl)) (trip_word k)]
    rfl
  case piece1 =>
    obtain ⟨a, b, d, rfl⟩ : ∃ (a : Fin 1) (b : Fin 128) (d : Fin 640), x = ix3 a b d := ⟨_, _, _, eq_ix3 x⟩
    obtain rfl : a = 0 := Subsingleton.elim _ _
    obtain rfl : h = 2 := Fin.ext hx0
    obtain rfl : r = b := Fin.ext hx1
    obtain rfl : col = d := Fin.ext hx2
    rw [trips_val, table_blk]
    refine piece_at _ _ _ (fun y => by show k0_pay15 y = 0; pointwise [k0_pay15]) (fun k => (st_k0_t3_succ (k := ⟨k.val, k.isLt⟩) ..).trans ?_) r col
    unfold tripR_k0_t3 trip_k0_t3
    dsimp only
    unfold trip_k0_t3.sl.r
    rw [table_read _ _ _ _ _ ⟨4 * (t.val / 64) + 2, by omega⟩ k ((head_word (grid0.coords t 0) 2).trans (by rw [group_val]; rfl)) (trip_word k)]
    rfl
  case piece2 =>
    obtain ⟨a, b, d, rfl⟩ : ∃ (a : Fin 1) (b : Fin 128) (d : Fin 640), x = ix3 a b d := ⟨_, _, _, eq_ix3 x⟩
    obtain rfl : a = 0 := Subsingleton.elim _ _
    obtain rfl : h = 1 := Fin.ext hx0
    obtain rfl : r = b := Fin.ext hx1
    obtain rfl : col = d := Fin.ext hx2
    rw [trips_val, table_blk]
    refine piece_at _ _ _ (fun y => by show k0_pay12 y = 0; pointwise [k0_pay12]) (fun k => (st_k0_t2_succ (k := ⟨k.val, k.isLt⟩) ..).trans ?_) r col
    unfold tripR_k0_t2 trip_k0_t2
    dsimp only
    unfold trip_k0_t2.sl.r
    rw [table_read _ _ _ _ _ ⟨4 * (t.val / 64) + 1, by omega⟩ k ((head_word (grid0.coords t 0) 1).trans (by rw [group_val]; rfl)) (trip_word k)]
    rfl
  case piece3 =>
    obtain ⟨a, b, d, rfl⟩ : ∃ (a : Fin 1) (b : Fin 128) (d : Fin 640), x = ix3 a b d := ⟨_, _, _, eq_ix3 x⟩
    obtain rfl : a = 0 := Subsingleton.elim _ _
    obtain rfl : h = 0 := Fin.ext hx0
    obtain rfl : r = b := Fin.ext hx1
    obtain rfl : col = d := Fin.ext hx2
    rw [trips_val, table_blk]
    refine piece_at _ _ _ (fun y => by show k0_pay8 y = 0; pointwise [k0_pay8]) (fun k => (st_k0_t1_succ (k := ⟨k.val, k.isLt⟩) ..).trans ?_) r col
    unfold tripR_k0_t1 trip_k0_t1
    dsimp only
    unfold trip_k0_t1.sl.r
    rw [table_read _ _ _ _ _ ⟨4 * (t.val / 64) + 0, by omega⟩ k ((head_word (grid0.coords t 0) 0).trans (by rw [group_val]; rfl)) (trip_word k)]
    rfl

/-- The bias of a later point of a batch is the one of the point before it. -/
theorem bias_B (c : Dev nD) (t : Fin cfg0.N) (h0 : ¬t.val % 64 = 0) (h1 : ¬t.val % 16 = 0) (h2 : 1 ≤ t.val % 16) :
    (outsAt0 m c t.val t.isLt).2.1 = (outsAt0 m c (t.val - 1) (by have := t.isLt; omega)).2.1 := by
  rw [outsAt0_B m c t h0 h1 h2]
  rfl

/-- The bias of the first point of a later batch likewise. -/
theorem bias_C (c : Dev nD) (t : Fin cfg0.N) (h0 : ¬t.val % 64 = 0) (h1 : t.val % 16 = 0) (h2 : ¬1 ≤ t.val % 16) :
    (outsAt0 m c t.val t.isLt).2.1 = (outsAt0 m c (t.val - 1) (by have := t.isLt; omega)).2.1 := by
  rw [outsAt0_C m c t h0 h1 h2]
  rfl

/-- The bias held at every point: the one of its group's heads. -/
theorem bias_at (c : Dev nD) (n : ℕ) (hn : n < cfg0.N) (ht : n < 256) (h : Fin 4) (r : Fin 128) (col : Fin 640) :
    (outsAt0 m c n hn).2.1 (ix3 h r col) = bandBias (m ((c : Thread nD τ).loc main_arg1)) ⟨4 * (n / 64) + h.val, by omega⟩ r col := by
  induction n with
  | zero => exact bias_A_at m c ⟨0, hn⟩ rfl rfl (by show ¬1 ≤ 0 % 16; decide) h r col ht
  | succ n ih =>
    by_cases h0 : (n + 1) % 64 = 0
    · exact bias_A_at m c ⟨n + 1, hn⟩ h0 (by show (n + 1) % 16 = 0; omega) (by show ¬1 ≤ (n + 1) % 16; omega) h r col ht
    · have hg : (n + 1) / 64 = n / 64 := by omega
      have hp : (outsAt0 m c (n + 1) hn).2.1 = (outsAt0 m c n (by omega)).2.1 := by
        by_cases h1 : (n + 1) % 16 = 0
        · exact bias_C m c ⟨n + 1, hn⟩ h0 h1 (by show ¬1 ≤ (n + 1) % 16; omega)
        · exact bias_B m c ⟨n + 1, hn⟩ h0 h1 (by show 1 ≤ (n + 1) % 16; omega)
      rw [hp, ih (by omega) (by omega)]
      exact congrArg (fun k => bandBias (m ((c : Thread nD τ).loc main_arg1)) k r col) (Fin.ext (by show 4 * (n / 64) + h.val = 4 * ((n + 1) / 64) + h.val; omega))

end Cert.KernelIdeal.Value

end
-- ==== Proof.AttnBand.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.AttnBias

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The later half of the band of keys after a point: the point's own keys. -/
theorem keys_new (c : Dev nD) (t : Fin cfg0.N) (ht : t.val < 256) (r : Fin 1024) (hr : 512 ≤ r.val) (e : Fin 512) :
    ((outsAt0 m c t.val t.isLt).2.2.1 : FVec Ideal S1024x512 .bf16) (ix2 r e) = (m ((c : Thread nD τ).loc main_arg0) : FVec Ideal S4x8192x14336 .f32)
      (ix3 ⟨t.val / 16 % 4, by omega⟩ ⟨512 * (t.val % 16) + r.val - 512, by omega⟩ ⟨6144 + (512 * (t.val / 64) + e.val), by omega⟩) := by
  have hblk : ∀ r' : Fin 512, (iblk m c 2 t : FVec Ideal S1x512x512 .f32) (ix3 0 r' e) = (m ((c : Thread nD τ).loc main_arg0) : FVec Ideal S4x8192x14336 .f32)
      (ix3 ⟨t.val / 16 % 4, by omega⟩ ⟨512 * (t.val % 16) + r'.val, by omega⟩ ⟨6144 + (512 * (t.val / 64) + e.val), by omega⟩) := fun r' => by
    blk_ext [iblk, V, idx t]
  have tile : ∀ x : S512x512.Idx, r.val = 512 + (x 0).val → e.val = (x 1).val → k0_pay25 (iblk m c 2 t) x = (m ((c : Thread nD τ).loc main_arg0) : FVec Ideal S4x8192x14336 .f32)
      (ix3 ⟨t.val / 16 % 4, by omega⟩ ⟨512 * (t.val % 16) + r.val - 512, by omega⟩ ⟨6144 + (512 * (t.val / 64) + e.val), by omega⟩) := by
    intro x hx0 hx1
    obtain ⟨a, b, rfl⟩ : ∃ (a : Fin 512) (b : Fin 512), x = ix2 a b := ⟨_, _, eq_ix2 x⟩
    obtain rfl : e = b := Fin.ext hx1
    have ha : r.val = 512 + a.val := hx0
    refine (by pointwise [k0_pay25] : _ = (iblk m c 2 t : FVec Ideal S1x512x512 .f32) (ix3 0 a e)).trans ((hblk a).trans ?_)
    refine congrArg _ (congrArg (fun k => ix3 _ k _) (Fin.ext ?_))
    show 512 * (t.val % 16) + a.val = 512 * (t.val % 16) + r.val - 512
    omega
  by_cases h1 : t.val % 16 = 0
  · by_cases h0 : t.val % 64 = 0
    · rw [outsAt0_A m c t h0 h1 (by omega)]; frame_out
      canon_tiles x hx
      case piece0 => exact tile x hx0 hx1
      case piece1 => exact absurd (show r.val = (x 0).val from hx0) (by omega)
    · rw [outsAt0_C m c t h0 h1 (by omega)]; frame_out
      canon_tiles x hx
      case piece0 => exact tile x hx0 hx1
      case piece1 => exact absurd (show r.val = (x 0).val from hx0) (by omega)
  · rw [outsAt0_B m c t (by omega) h1 (by omega)]; frame_out
    canon_tiles x hx
    case piece0 => exact tile x hx0 hx1
    case piece1 => exact absurd (show r.val = (x 0).val from hx0) (by omega)

/-- The band of keys after a point: the keys of the point's rows and of the 512 before them. -/
theorem keys_at (c : Dev nD) (t : Fin cfg0.N) (ht : t.val < 256) (r : Fin 1024) (hr : 512 ≤ 512 * (t.val % 16) + r.val) (e : Fin 512) :
    ((outsAt0 m c t.val t.isLt).2.2.1 : FVec Ideal S1024x512 .bf16) (ix2 r e) = (m ((c : Thread nD τ).loc main_arg0) : FVec Ideal S4x8192x14336 .f32)
      (ix3 ⟨t.val / 16 % 4, by omega⟩ ⟨512 * (t.val % 16) + r.val - 512, by omega⟩ ⟨6144 + (512 * (t.val / 64) + e.val), by omega⟩) := by
  by_cases hr' : 512 ≤ r.val
  · exact keys_new m c t ht r hr' e
  · have h1 : ¬t.val % 16 = 0 := by omega
    rw [outsAt0_B m c t (by omega) h1 (by omega)]; frame_out
    canon_tiles x hx
    case piece0 => exact absurd (show r.val = 512 + (x 0).val from hx0) (by omega)
    case piece1 =>
      obtain ⟨a, b, rfl⟩ : ∃ (a : Fin 512) (b : Fin 512), x = ix2 a b := ⟨_, _, eq_ix2 x⟩
      obtain rfl : e = b := Fin.ext hx1
      have ha : r.val = a.val := hx0
      have prev := keys_new m c ⟨t.val - 1, by have := t.isLt; omega⟩ (by show t.val - 1 < 256; omega) ⟨512 + a.val, by omega⟩ (by show 512 ≤ 512 + a.val; omega) e
      rw [(Memref.isWhole_whole cc0_scratch1).read_unread]
      refine Eq.trans ?_ (prev.trans ?_)
      · pointwise [k0_pay23]
      · refine congrArg _ (congr (congr (congrArg ix3 (Fin.ext ?_)) (Fin.ext ?_)) (Fin.ext ?_))
        · show (t.val - 1) / 16 % 4 = t.val / 16 % 4
          omega
        · show 512 * ((t.val - 1) % 16) + (512 + a.val) - 512 = 512 * (t.val % 16) + r.val - 512
          omega
        · show 6144 + (512 * ((t.val - 1) / 64) + e.val) = 6144 + (512 * (t.val / 64) + e.val)
          omega

/-- The later half of the band of values after a point: the point's own values. -/
theorem values_new (c : Dev nD) (t : Fin cfg0.N) (ht : t.val < 256) (r : Fin 1024) (hr : 512 ≤ r.val) (e : Fin 512) :
    ((outsAt0 m c t.val t.isLt).2.2.2 : FVec Ideal S1024x512 .bf16) (ix2 r e) = (m ((c : Thread nD τ).loc main_arg0) : FVec Ideal S4x8192x14336 .f32)
      (ix3 ⟨t.val / 16 % 4, by omega⟩ ⟨512 * (t.val % 16) + r.val - 512, by omega⟩ ⟨8192 + (512 * (t.val / 64) + e.val), by omega⟩) := by
  have hblk : ∀ r' : Fin 512, (iblk m c 3 t : FVec Ideal S1x512x512 .f32) (ix3 0 r' e) = (m ((c : Thread nD τ).loc main_arg0) : FVec Ideal S4x8192x14336 .f32)
      (ix3 ⟨t.val / 16 % 4, by omega⟩ ⟨512 * (t.val % 16) + r'.val, by omega⟩ ⟨8192 + (512 * (t.val / 64) + e.val), by omega⟩) := fun r' => by
    blk_ext [iblk, V, idx t]
  have tile : ∀ x : S512x512.Idx, r.val = 512 + (x 0).val → e.val = (x 1).val → k0_pay26 (iblk m c 3 t) x = (m ((c : Thread nD τ).loc main_arg0) : FVec Ideal S4x8192x14336 .f32)
      (ix3 ⟨t.val / 16 % 4, by omega⟩ ⟨512 * (t.val % 16) + r.val - 512, by omega⟩ ⟨8192 + (512 * (t.val / 64) + e.val), by omega⟩) := by
    intro x hx0 hx1
    obtain ⟨a, b, rfl⟩ : ∃ (a : Fin 512) (b : Fin 512), x = ix2 a b := ⟨_, _, eq_ix2 x⟩
    obtain rfl : e = b := Fin.ext hx1
    have ha : r.val = 512 + a.val := hx0
    refine (by pointwise [k0_pay26] : _ = (iblk m c 3 t : FVec Ideal S1x512x512 .f32) (ix3 0 a e)).trans ((hblk a).trans ?_)
    refine congrArg _ (congrArg (fun k => ix3 _ k _) (Fin.ext ?_))
    show 512 * (t.val % 16) + a.val = 512 * (t.val % 16) + r.val - 512
    omega
  by_cases h1 : t.val % 16 = 0
  · by_cases h0 : t.val % 64 = 0
    · rw [outsAt0_A m c t h0 h1 (by omega)]; frame_out
      canon_tiles x hx
      case piece0 => exact tile x hx0 hx1
      case piece1 => exact absurd (show r.val = (x 0).val from hx0) (by omega)
    · rw [outsAt0_C m c t h0 h1 (by omega)]; frame_out
      canon_tiles x hx
      case piece0 => exact tile x hx0 hx1
      case piece1 => exact absurd (show r.val = (x 0).val from hx0) (by omega)
  · rw [outsAt0_B m c t (by omega) h1 (by omega)]; frame_out
    canon_tiles x hx
    case piece0 => exact tile x hx0 hx1
    case piece1 => exact absurd (show r.val = (x 0).val from hx0) (by omega)

/-- The band of values after a point: the values of the point's rows and of the 512 before them. -/
theorem values_at (c : Dev nD) (t : Fin cfg0.N) (ht : t.val < 256) (r : Fin 1024) (hr : 512 ≤ 512 * (t.val % 16) + r.val) (e : Fin 512) :
    ((outsAt0 m c t.val t.isLt).2.2.2 : FVec Ideal S1024x512 .bf16) (ix2 r e) = (m ((c : Thread nD τ).loc main_arg0) : FVec Ideal S4x8192x14336 .f32)
      (ix3 ⟨t.val / 16 % 4, by omega⟩ ⟨512 * (t.val % 16) + r.val - 512, by omega⟩ ⟨8192 + (512 * (t.val / 64) + e.val), by omega⟩) := by
  by_cases hr' : 512 ≤ r.val
  · exact values_new m c t ht r hr' e
  · have h1 : ¬t.val % 16 = 0 := by omega
    rw [outsAt0_B m c t (by omega) h1 (by omega)]; frame_out
    canon_tiles x hx
    case piece0 => exact absurd (show r.val = 512 + (x 0).val from hx0) (by omega)
    case piece1 =>
      obtain ⟨a, b, rfl⟩ : ∃ (a : Fin 512) (b : Fin 512), x = ix2 a b := ⟨_, _, eq_ix2 x⟩
      obtain rfl : e = b := Fin.ext hx1
      have ha : r.val = a.val := hx0
      have prev := values_new m c ⟨t.val - 1, by have := t.isLt; omega⟩ (by show t.val - 1 < 256; omega) ⟨512 + a.val, by omega⟩ (by show 512 ≤ 512 + a.val; omega) e
      rw [(Memref.isWhole_whole cc0_scratch2).read_unread]
      refine Eq.trans ?_ (prev.trans ?_)
      · pointwise [k0_pay24]
      · refine congrArg _ (congr (congr (congrArg ix3 (Fin.ext ?_)) (Fin.ext ?_)) (Fin.ext ?_))
        · show (t.val - 1) / 16 % 4 = t.val / 16 % 4
          omega
        · show 512 * ((t.val - 1) % 16) + (512 + a.val) - 512 = 512 * (t.val % 16) + r.val - 512
          omega
        · show 8192 + (512 * ((t.val - 1) / 64) + e.val) = 8192 + (512 * (t.val / 64) + e.val)
          omega

end Cert.KernelIdeal.Value

end
-- ==== Proof.AttnTiles.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.AttnBand

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The scores of one tile of 128 queries over the band of 640 keys: the products with the keys, scaled, the bias of their distance
    added, and −∞ at the columns before the first token. -/
def scores (block start : BitVec 32) (q : Vec Ideal S1x128x128 .f32) (k : FVec Ideal S640x128 .bf16) (b : Vec Ideal S1x128x640 .f32) :
    FVec Ideal S128x640 .f32 :=
  select
    (cmpi .sge (addi (iota .tc S128x640 32 [1] iota_S128x640_d1_w32)
      (broadcast S128x640 (Scalar.subi (Scalar.addi (Scalar.muli block 512#32) start) 512#32))) (broadcast S128x640 0#32))
    (addf (mulf (matmul dot_S128x128_S640x128_S128x640_1_1_0_0_n_n none
        (truncf .bf16 (shapeCast S128x128 q shapeCasts_S1x128x128_S128x128) bitsLt_bf16_f32) k (constant S128x640 .f32 0x00000000#32))
      (broadcast S128x640 (Scalar.ofBits .f32 0x3DB504F3#32))) (shapeCast S128x640 b shapeCasts_S1x128x640_S128x640))
    (broadcast S128x640 (Named.named κ "mask" 0xF149F2CA#32))

/-- The exponentials of the scores, each row's maximum taken off. -/
def lifts (x : FVec Ideal S128x640 .f32) : FVec Ideal S128x640 .f32 :=
  exp (subf x (broadcastTo S128x640 (shapeCast S128x1
    (multiReduction .maximumf [1] S128 x 0xFF800000#32 reduces_S128x640_S128 (.inl rfl) rfl) shapeCasts_S128_S128x1)
    broadcasts_S128x1_S128x640))

/-- The values of the band weighted with the exponentials of the scores, divided by their sum and gated. -/
def attend (x : FVec Ideal S128x640 .f32) (v : FVec Ideal S640x128 .bf16) (gate : Vec Ideal S1x128x128 .f32) :
    FVec Ideal S1x128x128 .bf16 :=
  shapeCast S1x128x128 (truncf .bf16 (mulf (divf
      (matmul dot_S128x640_S640x128_S128x128_1_0_0_1_n_n none (truncf .bf16 (lifts x) bitsLt_bf16_f32) v (constant S128x128 .f32 0x00000000#32))
      (broadcastTo S128x128 (shapeCast S128x1
        (multiReduction .add [1] S128 (lifts x) 0x00000000#32 reduces_S128x640_S128 (.inl rfl) rfl) shapeCasts_S128_S128x1)
        broadcasts_S128x1_S128x128))
    (logistic (shapeCast S128x128 gate shapeCasts_S1x128x128_S128x128))) bitsLt_bf16_f32) shapeCasts_S128x128_S1x128x128

/-- The corner of the n-th of a block's sixteen tiles, the last stored first: its first row. -/
abbrev tileRow (n : Fin 16) : ℕ := 128 * (3 - n.val % 4)

/-- Its head among the group's four. -/
abbrev tileHead (n : Fin 16) : ℕ := 3 - n.val / 4

/-- The sixteen tiles of a block of the output, each from its queries, its bands of the keys and values, its head's bias and its gates. -/
def tiles (block : BitVec 32) (Q : Vec Ideal S1x512x512 .f32) (K V : Vec Ideal S1024x512 .bf16) (B : Vec Ideal S4x128x640 .f32)
    (G : Vec Ideal S1x512x512 .f32) : Vec Ideal S1x512x512 .bf16 :=
  View.canon (List.ofFn fun n : Fin 16 =>
    (⟨Rect.unit ![0, tileRow n, 128 * tileHead n] ![1, 128, 128] (by revert n; decide),
      attend (scores block (BitVec.ofNat 32 (tileRow n))
          (View.ld Q (Rect.unit ![0, tileRow n, 128 * tileHead n] ![1, 128, 128] (by revert n; decide)))
          (View.ld K (Rect.unit ![tileRow n, 128 * tileHead n] ![640, 128] (by revert n; decide)))
          (View.ld B (Rect.unit ![tileHead n, 0, 0] ![1, 128, 640] (by revert n; decide))))
        (View.ld V (Rect.unit ![tileRow n, 128 * tileHead n] ![640, 128] (by revert n; decide)))
        (View.ld G (Rect.unit ![0, tileRow n, 128 * tileHead n] ![1, 128, 128] (by revert n; decide)))⟩ :
      View.Piece (Elt Ideal) S1x512x512 .bf16))

/-- The block of the output a later point of a batch writes, from what the scratches hold after it. -/
theorem out_B (c : Dev nD) (t : Fin cfg0.N) (h0 : ¬t.val % 64 = 0) (h1 : ¬t.val % 16 = 0) (h2 : 1 ≤ t.val % 16) :
    (outsAt0 m c t.val t.isLt).1 = tiles (BitVec.ofNat 32 (grid0.coords t 2)) (iblk m c 1 t) (outsAt0 m c t.val t.isLt).2.2.1
      (outsAt0 m c t.val t.isLt).2.2.2 (outsAt0 m c t.val t.isLt).2.1 (iblk m c 4 t) := by
  obtain ⟨K, hK⟩ : ∃ K, K = (outsAt0 m c t.val t.isLt).2.2.1 := ⟨_, rfl⟩
  obtain ⟨V, hV⟩ : ∃ V, V = (outsAt0 m c t.val t.isLt).2.2.2 := ⟨_, rfl⟩
  rw [← hK, ← hV, bias_B m c t h0 h1 h2]
  obtain ⟨T, hT⟩ : ∃ T, T = tiles (BitVec.ofNat 32 (grid0.coords t 2)) (iblk m c 1 t) K V
    (outsAt0 m c (t.val - 1) (by have := t.isLt; omega)).2.1 (iblk m c 4 t) := ⟨_, rfl⟩
  rw [← hT]
  rw [outsAt0_B m c t h0 h1 h2] at hK hV ⊢
  frame_out at hK; frame_out at hV; frame_out
  simp only [View.readCov_eq_canon', ← hK, ← hV]
  clear hK hV
  rw [hT]
  unfold tiles
  rw [(Memref.isWhole_whole cc0_scratch0).read_unread]
  refine congrArg View.canon ?_
  iterate 16
    rw [List.ofFn_succ]
    refine congrArg₂ List.cons ?_ ?_
    · rfl
  rfl

/-- The first point of a later batch likewise. -/
theorem out_C (c : Dev nD) (t : Fin cfg0.N) (h0 : ¬t.val % 64 = 0) (h1 : t.val % 16 = 0) (h2 : ¬1 ≤ t.val % 16) :
    (outsAt0 m c t.val t.isLt).1 = tiles (BitVec.ofNat 32 (grid0.coords t 2)) (iblk m c 1 t) (outsAt0 m c t.val t.isLt).2.2.1
      (outsAt0 m c t.val t.isLt).2.2.2 (outsAt0 m c t.val t.isLt).2.1 (iblk m c 4 t) := by
  obtain ⟨K, hK⟩ : ∃ K, K = (outsAt0 m c t.val t.isLt).2.2.1 := ⟨_, rfl⟩
  obtain ⟨V, hV⟩ : ∃ V, V = (outsAt0 m c t.val t.isLt).2.2.2 := ⟨_, rfl⟩
  rw [← hK, ← hV, bias_C m c t h0 h1 h2]
  obtain ⟨T, hT⟩ : ∃ T, T = tiles (BitVec.ofNat 32 (grid0.coords t 2)) (iblk m c 1 t) K V
    (outsAt0 m c (t.val - 1) (by have := t.isLt; omega)).2.1 (iblk m c 4 t) := ⟨_, rfl⟩
  rw [← hT]
  rw [outsAt0_C m c t h0 h1 h2] at hK hV ⊢
  frame_out at hK; frame_out at hV; frame_out
  simp only [View.readCov_eq_canon', ← hK, ← hV]
  clear hK hV
  rw [hT]
  unfold tiles
  rw [(Memref.isWhole_whole cc0_scratch0).read_unread]
  refine congrArg View.canon ?_
  iterate 16
    rw [List.ofFn_succ]
    refine congrArg₂ List.cons ?_ ?_
    · rfl
  rfl

/-- The first point of a group likewise. -/
theorem out_A (c : Dev nD) (t : Fin cfg0.N) (h0 : t.val % 64 = 0) (h1 : t.val % 16 = 0) (h2 : ¬1 ≤ t.val % 16) :
    (outsAt0 m c t.val t.isLt).1 = tiles (BitVec.ofNat 32 (grid0.coords t 2)) (iblk m c 1 t) (outsAt0 m c t.val t.isLt).2.2.1
      (outsAt0 m c t.val t.isLt).2.2.2 (outsAt0 m c t.val t.isLt).2.1 (iblk m c 4 t) := by
  obtain ⟨K, hK⟩ : ∃ K, K = (outsAt0 m c t.val t.isLt).2.2.1 := ⟨_, rfl⟩
  obtain ⟨V, hV⟩ : ∃ V, V = (outsAt0 m c t.val t.isLt).2.2.2 := ⟨_, rfl⟩
  obtain ⟨B, hB⟩ : ∃ B, B = (outsAt0 m c t.val t.isLt).2.1 := ⟨_, rfl⟩
  rw [← hK, ← hV, ← hB]
  obtain ⟨T, hT⟩ : ∃ T, T = tiles (BitVec.ofNat 32 (grid0.coords t 2)) (iblk m c 1 t) K V B (iblk m c 4 t) := ⟨_, rfl⟩
  rw [← hT]
  rw [outsAt0_A m c t h0 h1 h2] at hK hV hB ⊢
  frame_out at hK; frame_out at hV; frame_out at hB; frame_out
  simp only [View.readCov_eq_canon', ← hK, ← hV, ← hB]
  clear hK hV hB
  rw [hT]
  unfold tiles
  refine congrArg View.canon ?_
  iterate 16
    rw [List.ofFn_succ]
    refine congrArg₂ List.cons ?_ ?_
    · rfl
  rfl

end Cert.KernelIdeal.Value

end
-- ==== Proof.AttnTilesAt.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.AttnTiles

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The order of the columns before the first token, as words. -/
theorem before_word : ∀ d : Fin 9216, IntOp.cmpi CmpIPredicate.sge (BitVec.ofNat 32 d.val - 512#32) 0#32 = BitVec.ofBool (decide (512 ≤ d.val)) := by
  decide +kernel

/-- The scores of a tile at a row and a column of its band. -/
theorem scores_at (i : Fin 16) (s : ℕ) (hs : s ≤ 384) (q : Vec Ideal S1x128x128 .f32) (k : FVec Ideal S640x128 .bf16) (b : Vec Ideal S1x128x640 .f32)
    (r : Fin 128) (c : Fin 640) : scores (BitVec.ofNat 32 i.val) (BitVec.ofNat 32 s) q k b (ix2 r c)
      = if 512 ≤ 512 * i.val + s + c.val then pairScore (fun e => q (ix3 0 r e)) (fun e => k (ix2 c e)) (b (ix3 0 r c)) else ⊥ := by
  pointwise [scores]
  have hw : IntOp.addi (BitVec.ofNat 32 c.val) (Scalar.subi (Scalar.addi (Scalar.muli (BitVec.ofNat 32 i.val) 512#32) (BitVec.ofNat 32 s)) 512#32)
      = BitVec.ofNat 32 (512 * i.val + s + c.val) - 512#32 := by
    show BitVec.ofNat 32 c.val + (BitVec.ofNat 32 i.val * 512#32 + BitVec.ofNat 32 s - 512#32) = _
    have := i.isLt
    have := c.isLt
    bv_omega
  rw [hw, before_word ⟨512 * i.val + s + c.val, by omega⟩]
  by_cases h : 512 ≤ 512 * i.val + s + c.val
  · rw [if_pos h, decide_eq_true h]; rfl
  · rw [if_neg h, decide_eq_false h]; rfl

/-- The exponentials of a tile's scores at a row and a column. -/
theorem lifts_at (x : FVec Ideal S128x640 .f32) (r : Fin 128) (c : Fin 640) : lifts x (ix2 r c) = lift (fun c => x (ix2 r c)) c := by
  pointwise [lifts, lift, rowTop]
  rfl

/-- A tile of the output at a row and a lane. -/
theorem attend_at (x : FVec Ideal S128x640 .f32) (v : FVec Ideal S640x128 .bf16) (g : Vec Ideal S1x128x128 .f32) (r : Fin 128) (e : Fin 128) :
    attend x v g (ix3 0 r e) = softmaxLate (fun c => x (ix2 r c)) (fun c => v (ix2 c e)) * Ideal.logistic (g (ix3 0 r e)) := by
  pointwise [attend]
  simp only [lifts_at]
  rfl

/-- The block of the output at a row and a lane. -/
theorem tiles_at (i : Fin 16) (Q : Vec Ideal S1x512x512 .f32) (K V : FVec Ideal S1024x512 .bf16) (B : Vec Ideal S4x128x640 .f32)
    (G : Vec Ideal S1x512x512 .f32) (s h : Fin 4) (r e : Fin 128) :
    tiles (BitVec.ofNat 32 i.val) Q K V B G (ix3 0 ⟨128 * s.val + r.val, by omega⟩ ⟨128 * h.val + e.val, by omega⟩)
      = softmaxLate (fun c : Fin 640 => if 512 ≤ 512 * i.val + 128 * s.val + c.val then
            pairScore (fun e => Q (ix3 0 ⟨128 * s.val + r.val, by omega⟩ ⟨128 * h.val + e.val, by omega⟩))
              (fun e => K (ix2 ⟨128 * s.val + c.val, by omega⟩ ⟨128 * h.val + e.val, by omega⟩)) (B (ix3 h r c)) else ⊥)
          (fun c => V (ix2 ⟨128 * s.val + c.val, by omega⟩ ⟨128 * h.val + e.val, by omega⟩))
        * Ideal.logistic (G (ix3 0 ⟨128 * s.val + r.val, by omega⟩ ⟨128 * h.val + e.val, by omega⟩)) := by
  unfold tiles
  canon_tiles x hx
  case tile =>
    obtain ⟨a, b, d, rfl⟩ : ∃ (a : Fin 1) (b : Fin 128) (d : Fin 128), x = ix3 a b d := ⟨_, _, _, eq_ix3 x⟩
    obtain rfl : a = 0 := Subsingleton.elim _ _
    have hx1' : 128 * s.val + r.val = 128 * (3 - k.val % 4) + b.val := hx1
    have hx2' : 128 * h.val + e.val = 128 * (3 - k.val / 4) + d.val := hx2
    obtain rfl : s = ⟨3 - k.val % 4, Nat.lt_succ_of_le (Nat.sub_le 3 _)⟩ := Fin.ext (by show s.val = 3 - k.val % 4; omega)
    obtain rfl : h = ⟨3 - k.val / 4, Nat.lt_succ_of_le (Nat.sub_le 3 _)⟩ := Fin.ext (by show h.val = 3 - k.val / 4; omega)
    obtain rfl : r = b := Fin.ext (by omega)
    obtain rfl : e = d := Fin.ext (by omega)
    clear hx1' hx2' hx0 hx1 hx2
    rw [attend_at]
    refine congrArg₂ (fun a b : EReal => a * b) (congrArg₂ softmaxLate (funext fun c => ?_) (funext fun c => ?_)) (congrArg Ideal.logistic ?_)
    · rw [scores_at i (tileRow k) (by show 128 * (3 - k.val % 4) ≤ 384; omega)]
      refine congrArg (fun a => if 512 ≤ 512 * i.val + 128 * (3 - k.val % 4) + c.val then a else ⊥) ?_
      refine congr (congrArg₂ pairScore (funext fun l => ?_) (funext fun l => ?_)) ?_
      · exact View.ld_unit_apply_of _ _ _ _ _ _ fun a => match a with
          | ⟨0, _⟩ => rfl
          | ⟨1, _⟩ => rfl
          | ⟨2, _⟩ => rfl
      · exact View.ld_unit_apply_of _ _ _ _ _ _ fun a => match a with
          | ⟨0, _⟩ => rfl
          | ⟨1, _⟩ => rfl
      · exact View.ld_unit_apply_of _ _ _ _ _ _ fun a => match a with
          | ⟨0, _⟩ => rfl
          | ⟨1, _⟩ => (Nat.zero_add _).symm
          | ⟨2, _⟩ => (Nat.zero_add _).symm
    · exact View.ld_unit_apply_of _ _ _ _ _ _ fun a => match a with
          | ⟨0, _⟩ => rfl
          | ⟨1, _⟩ => rfl
    · exact View.ld_unit_apply_of _ _ _ _ _ _ fun a => match a with
          | ⟨0, _⟩ => rfl
          | ⟨1, _⟩ => rfl
          | ⟨2, _⟩ => rfl
  case cover =>
    refine ⟨⟨4 * (3 - h.val) + (3 - s.val), by omega⟩, fun a => ?_⟩
    match a with
    | ⟨0, _⟩ => exact ⟨le_rfl, Nat.one_pos⟩
    | ⟨1, _⟩ =>
      show 128 * (3 - (4 * (3 - h.val) + (3 - s.val)) % 4) ≤ 128 * s.val + r.val ∧ 128 * s.val + r.val < 128 * (3 - (4 * (3 - h.val) + (3 - s.val)) % 4) + 128
      omega
    | ⟨2, _⟩ =>
      show 128 * (3 - (4 * (3 - h.val) + (3 - s.val)) / 4) ≤ 128 * h.val + e.val ∧ 128 * h.val + e.val < 128 * (3 - (4 * (3 - h.val) + (3 - s.val)) / 4) + 128
      omega

end Cert.KernelIdeal.Value

end
-- ==== Proof.AttnRef.lean ====
/- The attention's reference at an index: every query attends to the whole prompt under the band's mask. -/
module

public import proofs.«01_k».proof.Proof.Gen.ReferenceIdeal.Run
public import Idealize.ShloMosaic.Lib.Pipeline.ValueKit
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.Attn

section Reference
open Cert.ReferenceIdeal Cert.ReferenceIdeal.Gen

/-- The query positions, as a column. -/
def qPos : IVec S8192x1 32 := broadcastInDim S8192x1 ![0] bcast_S8192_S8192x1_0 (iotaInDim S8192 32 0)

/-- The key positions, as a row. -/
def kPos : IVec S1x8192 32 := broadcastInDim S1x8192 ![1] bcast_S8192_S1x8192_1 (iotaInDim S8192 32 0)

/-- The chunk of 64 that a query lies in. -/
def qChunk : IVec S8192x1 32 :=
  let c64 : IVec S8192x1 32 := broadcastInDim S8192x1 ![] bcast_S_S8192x1 (id (constantI S_ 32 64#32))
  let s64 : IVec S8192x1 32 := broadcastInDim S8192x1 ![] bcast_S_S8192x1 (signi (id (constantI S_ 32 64#32)))
  let c0 : IVec S8192x1 32 := broadcastInDim S8192x1 ![] bcast_S_S8192x1 (constantI S_ 32 0#32)
  let c1 : IVec S8192x1 32 := broadcastInDim S8192x1 ![] bcast_S_S8192x1 (constantI S_ 32 1#32)
  select (andi (cmpi .ne (signi qPos) s64) (cmpi .ne (Host.remsi qPos c64) c0)) (subi (Host.divsi qPos c64) c1) (Host.divsi qPos c64)

/-- The chunk of 64 that a key lies in. -/
def kChunk : IVec S1x8192 32 :=
  let c64 : IVec S1x8192 32 := broadcastInDim S1x8192 ![] bcast_S_S1x8192 (id (constantI S_ 32 64#32))
  let s64 : IVec S1x8192 32 := broadcastInDim S1x8192 ![] bcast_S_S1x8192 (signi (id (constantI S_ 32 64#32)))
  let c0 : IVec S1x8192 32 := broadcastInDim S1x8192 ![] bcast_S_S1x8192 (constantI S_ 32 0#32)
  let c1 : IVec S1x8192 32 := broadcastInDim S1x8192 ![] bcast_S_S1x8192 (constantI S_ 32 1#32)
  select (andi (cmpi .ne (signi kPos) s64) (cmpi .ne (Host.remsi kPos c64) c0)) (subi (Host.divsi kPos c64) c1) (Host.divsi kPos c64)

/-- Which keys a query sees: those of its own chunk and of the eight chunks before it. -/
def mask : IVec S8192x8192 1 :=
  andi (andi (broadcastInDim S8192x8192 ![0, 1] bcast_S1x8192_S8192x8192_0_1
        (cmpi .sge kPos (broadcastInDim S1x8192 ![] bcast_S_S1x8192 (constantI S_ 32 0#32))))
      (cmpi .sle (broadcastInDim S8192x8192 ![0, 1] bcast_S1x8192_S8192x8192_0_1 kChunk)
        (broadcastInDim S8192x8192 ![0, 1] bcast_S8192x1_S8192x8192_0_1 qChunk)))
    (cmpi .sge (broadcastInDim S8192x8192 ![0, 1] bcast_S1x8192_S8192x8192_0_1 kChunk)
      (broadcastInDim S8192x8192 ![0, 1] bcast_S8192x1_S8192x8192_0_1
        (subi qChunk (broadcastInDim S8192x1 ![] bcast_S_S8192x1 (constantI S_ 32 8#32)))))

/-- The bias table's column for a query and a key: their distance, clipped, from 0. -/
def slot : IVec S8192x8192 32 :=
  let d : IVec S8192x8192 32 := subi (broadcastInDim S8192x8192 ![0, 1] bcast_S8192x1_S8192x8192_0_1 qPos)
    (broadcastInDim S8192x8192 ![0, 1] bcast_S1x8192_S8192x8192_0_1 kPos)
  let lo : IVec S8192x8192 32 := broadcastInDim S8192x8192 ![] bcast_S_S8192x8192 (id (constantI S_ 32 4294967233#32))
  let hi : IVec S8192x8192 32 := broadcastInDim S8192x8192 ![] bcast_S_S8192x8192 (id (constantI S_ 32 128#32))
  let s : IVec S8192x8192 32 := addi (minsi hi (maxsi lo d)) (broadcastInDim S8192x8192 ![] bcast_S_S8192x8192 (constantI S_ 32 63#32))
  select (cmpi .slt s (broadcastInDim S8192x8192 ![] bcast_S_S8192x8192 (constantI S_ 32 0#32)))
    (addi s (broadcastInDim S8192x8192 ![] bcast_S_S8192x8192 (constantI S_ 32 192#32))) s

/-- The bias of every head for every query and key. -/
def bias (rel : FVec Ideal S16x192 .f32) : FVec Ideal S16x8192x8192 .f32 :=
  Host.gather gather_S16x192_S8192x8192x1_S16x8192x8192_0_1_n_n_1_2_161 rel
    (broadcastInDim S8192x8192x1 ![0, 1] bcast_S8192x8192_S8192x8192x1_0_1 slot)

/-- The masked scores. -/
def score (proj : FVec Ideal S4x8192x14336 .f32) (rel : FVec Ideal S16x192 .f32) : FVec Ideal S4x16x8192x8192 .f32 :=
  select (broadcastInDim S4x16x8192x8192 ![2, 3] bcast_S8192x8192_S4x16x8192x8192_2_3 mask)
    (addf (mulf (Host.dotGeneral dot_S4x8192x16x128_S4x8192x16x128_S4x16x8192x8192_3_3_1_1_02_02 none
          (shapeCast _ (extractStridedSlice S4x8192x2048 ![0, 0, 4096] proj slices_S4x8192x14336_S4x8192x2048_0_0_4096) shapeCasts_S4x8192x2048_S4x8192x16x128)
          (shapeCast _ (extractStridedSlice S4x8192x2048 ![0, 0, 6144] proj slices_S4x8192x14336_S4x8192x2048_0_0_6144) shapeCasts_S4x8192x2048_S4x8192x16x128))
        (broadcastInDim S4x16x8192x8192 ![] bcast_S_S4x16x8192x8192 (constant S_ .f32 0x3DB504F3#32)))
      (broadcastInDim S4x16x8192x8192 ![0, 1, 2, 3] bcast_S1x16x8192x8192_S4x16x8192x8192_0_1_2_3
        (broadcastInDim S1x16x8192x8192 ![1, 2, 3] bcast_S16x8192x8192_S1x16x8192x8192_1_2_3 (bias rel))))
    (broadcastInDim S4x16x8192x8192 ![] bcast_S_S4x16x8192x8192 (id (constant S_ .f32 0xFF800000#32)))

/-- Every row's maximum. -/
def maxima (x : FVec Ideal S4x16x8192x8192 .f32) : FVec Ideal S4x16x8192 .f32 :=
  Host.reduce FloatOps.maximumf x (constant S_ .f32 0xFF800000#32) reducesTo_S4x16x8192x8192_S4x16x8192_d3 h_S_

/-- The exponentials of the scores less their row's maximum. -/
def weight (x : FVec Ideal S4x16x8192x8192 .f32) : FVec Ideal S4x16x8192x8192 .f32 :=
  Host.exp (subf x (broadcastInDim S4x16x8192x8192 ![0, 1, 2, 3] bcast_S4x16x8192x1_S4x16x8192x8192_0_1_2_3
    (broadcastInDim S4x16x8192x1 ![0, 1, 2] bcast_S4x16x8192_S4x16x8192x1_0_1_2
      (maximumf (broadcastInDim S4x16x8192 ![] bcast_S_S4x16x8192 (constant S_ .f32 0xFF800000#32)) (maxima x)))))

/-- The values' mean under the weights, head by head. -/
def attend (proj : FVec Ideal S4x8192x14336 .f32) (w : FVec Ideal S4x16x8192x8192 .f32) : FVec Ideal S4x16x128x8192 .f32 :=
  Host.dotGeneral dot_S4x8192x16x128_S4x16x8192x8192_S4x16x128x8192_1_3_3_2_02_01 none
    (shapeCast _ (extractStridedSlice S4x8192x2048 ![0, 0, 8192] proj slices_S4x8192x14336_S4x8192x2048_0_0_8192) shapeCasts_S4x8192x2048_S4x8192x16x128)
    (Host.divf w (broadcastInDim S4x16x8192x8192 ![0, 1, 2, 3] bcast_S4x16x8192x1_S4x16x8192x8192_0_1_2_3
      (broadcastInDim S4x16x8192x1 ![0, 1, 2] bcast_S4x16x8192_S4x16x8192x1_0_1_2
        (Host.reduceAdd w (constant S_ .f32 0x00000000#32) reducesTo_S4x16x8192x8192_S4x16x8192_d3 h_S_))))

/-- The gate of every element. -/
def gate (proj : FVec Ideal S4x8192x14336 .f32) : FVec Ideal S4x8192x2048 .f32 :=
  let one : FVec Ideal S4x8192x2048 .f32 := broadcastInDim S4x8192x2048 ![] bcast_S_S4x8192x2048 (constant S_ .f32 0x3F800000#32)
  Host.divf one (addf one (Host.exp (Host.negf
    (extractStridedSlice S4x8192x2048 ![0, 0, 12288] proj slices_S4x8192x14336_S4x8192x2048_0_0_12288))))

/-- The reference's result. -/
def REF (proj : FVec Ideal S4x8192x14336 .f32) (rel : FVec Ideal S16x192 .f32) : FVec Ideal S4x8192x2048 .bf16 :=
  truncf .bf16 (mulf (gate proj) (shapeCast _ (transpose S4x8192x16x128 [0, 3, 1, 2] (attend proj (weight (score proj rel)))
    transposes_S4x16x128x8192_S4x8192x16x128_0_3_1_2) shapeCasts_S4x8192x16x128_S4x8192x2048)) bitsLt_bf16_f32

variable (m : (ℓ : Loc nD τ sig) → Buf (Elt Ideal) ℓ)

/-- The run's result is this term. -/
theorem ref_eq (c : Dev nD) : Cert.ReferenceIdeal.Value.res_main_v69 (F := Ideal) m c
    = REF (m ((c.tc : Thread nD τ).loc main_arg0)) (m ((c.tc : Thread nD τ).loc main_arg1)) := rfl

end Reference
end Cert.Attn

end
-- ==== Proof.AttnRefInt.lean ====
/- The attention's reference read at an index. -/
module

public import proofs.«01_k».proof.Proof.Gen.ReferenceIdeal.Run
public import proofs.«01_k».proof.Proof.AttnRef
public import proofs.«01_k».proof.Proof.AttnMath
public import Idealize.ShloMosaic.Lib.Pipeline.ValueKit
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.Attn

section Reference
open Cert.ReferenceIdeal Cert.ReferenceIdeal.Gen

/-- A position below 8192 over 64, as the reference writes the floor of a quotient of words, is the word of the quotient. -/
theorem floor64 : ∀ p : Fin 8192, Scalar.select (IntOp.andi
        (IntOp.cmpi CmpIPredicate.ne
          (if BitVec.ofNat 32 p.val = 0 then (0 : BitVec 32) else if (BitVec.ofNat 32 p.val).msb = true then -1 else 1)
          (if id (constantI S_ 32 64#32) ix0 = 0 then (0 : BitVec 32)
          else if (id (constantI S_ 32 64#32) ix0).msb = true then -1 else 1))
        (IntOp.cmpi CmpIPredicate.ne (IntOp.remsi ArithUnit.host (BitVec.ofNat 32 ↑p) (id (constantI S_ 32 64#32) ix0))
          0#32))
      (IntOp.subi (IntOp.divsi ArithUnit.host (BitVec.ofNat 32 ↑p) (id (constantI S_ 32 64#32) ix0)) 1#32)
      (IntOp.divsi ArithUnit.host (BitVec.ofNat 32 ↑p) (id (constantI S_ 32 64#32) ix0)) = BitVec.ofNat 32 (p.val / 64) := by
  decide +kernel

/-- A query's chunk. -/
theorem qChunk_at (p : Fin 8192) : qChunk (ix2 p 0) = BitVec.ofNat 32 (p.val / 64) := by
  pointwise [qChunk, qPos]
  exact floor64 p

/-- A key's chunk. -/
theorem kChunk_at (p : Fin 8192) : kChunk (ix2 0 p) = BitVec.ofNat 32 (p.val / 64) := by
  pointwise [kChunk, kPos]
  exact floor64 p

/-- The order of words below 8192. -/
theorem nonneg_word : ∀ k : Fin 8192, IntOp.cmpi CmpIPredicate.sge (BitVec.ofNat 32 ↑k) 0#32 = 1#1 := by decide +kernel

/-- The chunks a chunk sees: itself and the eight before it. -/
theorem chunk_seen : ∀ a b : Fin 128, IntOp.andi (IntOp.andi 1#1 (IntOp.cmpi CmpIPredicate.sle (BitVec.ofNat 32 b.val) (BitVec.ofNat 32 a.val)))
    (IntOp.cmpi CmpIPredicate.sge (BitVec.ofNat 32 b.val) (IntOp.subi (BitVec.ofNat 32 a.val) 8#32))
      = BitVec.ofBool (decide (b.val ≤ a.val ∧ a.val ≤ b.val + 8)) := by decide +kernel

/-- The mask at a query and a key. -/
theorem mask_at (p k : Fin 8192) : mask (ix2 p k) = BitVec.ofBool (decide (Seen p.val k.val)) := by
  pointwise [mask, kPos]
  rw [qChunk_at, kChunk_at, nonneg_word]
  exact chunk_seen ⟨p.val / 64, by omega⟩ ⟨k.val / 64, by omega⟩

/-- The clipped distance, from the distance as a word. -/
theorem clip_word : ∀ d : Fin 16383, Scalar.select
      (IntOp.cmpi CmpIPredicate.slt
        (IntOp.addi (IntOp.minsi (id (constantI S_ 32 128#32) ix0)
            (IntOp.maxsi (id (constantI S_ 32 4294967233#32) ix0) (BitVec.ofNat 32 d.val - 8191#32))) 63#32) 0#32)
      (IntOp.addi
        (IntOp.addi (IntOp.minsi (id (constantI S_ 32 128#32) ix0)
            (IntOp.maxsi (id (constantI S_ 32 4294967233#32) ix0) (BitVec.ofNat 32 d.val - 8191#32))) 63#32) 192#32)
      (IntOp.addi
        (IntOp.minsi (id (constantI S_ 32 128#32) ix0)
          (IntOp.maxsi (id (constantI S_ 32 4294967233#32) ix0) (BitVec.ofNat 32 d.val - 8191#32))) 63#32)
      = BitVec.ofNat 32 (min 191 (d.val + 63 - 8191)) := by decide +kernel

/-- The bias table's column at a query and a key. -/
theorem slot_at (p k : Fin 8192) : slot (ix2 p k) = BitVec.ofNat 32 (tableSlot p.val k.val).val := by
  pointwise [slot, kPos, qPos]
  have h : IntOp.subi (BitVec.ofNat 32 p.val) (BitVec.ofNat 32 k.val) = BitVec.ofNat 32 (p.val + 8191 - k.val) - 8191#32 := by
    show BitVec.ofNat 32 p.val - BitVec.ofNat 32 k.val = _
    have := p.isLt
    have := k.isLt
    bv_omega
  rw [h]
  refine (clip_word ⟨p.val + 8191 - k.val, by omega⟩).trans (congrArg (BitVec.ofNat 32) ?_)
  show min 191 (p.val + 8191 - k.val + 63 - 8191) = min 191 (p.val + 63 - k.val)
  omega

/-- A column's word as a start index, read signed and clamped. -/
theorem start_word : ∀ n : Fin 192, min (BitVec.ofNat 32 n.val).toInt.toNat (192 - 1) = n.val := by decide +kernel

/-- The bias of a head at a query and a key. -/
theorem bias_at (rel : FVec Ideal S16x192 .f32) (h : Fin 16) (p k : Fin 8192) : bias rel (ix3 h p k) = rel (ix2 h (tableSlot p.val k.val)) := by
  have hs : (broadcastInDim S8192x8192x1 ![0, 1] bcast_S8192x8192_S8192x8192x1_0_1 slot : IVec S8192x8192x1 32) (ix3 p k 0)
      = BitVec.ofNat 32 (tableSlot p.val k.val).val := (by pointwise : _ = slot (ix2 p k)).trans (slot_at p k)
  unfold bias Host.gather
  refine congrArg rel ?_
  funext a
  refine Fin.ext ?_
  show GatherDims.start gather_S16x192_S8192x8192x1_S16x8192x8192_0_1_n_n_1_2_161 (ix3 h p k) _ a
      + GatherDims.batchCoord gather_S16x192_S8192x8192x1_S16x8192x8192_0_1_n_n_1_2_161 (ix3 h p k) a
      + GatherDims.offCoord gather_S16x192_S8192x8192x1_S16x8192x8192_0_1_n_n_1_2_161 (ix3 h p k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S16x192_S8192x8192x1_S16x8192x8192_0_1_n_n_1_2_161] at h)]
    unfold GatherDims.start GatherDims.offCoord
    rw [dif_neg (by decide), dif_pos (by decide)]
    exact (Nat.zero_add _).trans rfl
  · rw [GatherDims.batchCoord_eq_zero _ _ _ (fun h => by simp [gather_S16x192_S8192x8192x1_S16x8192x8192_0_1_n_n_1_2_161] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S16x192_S8192x8192x1_S16x8192x8192_0_1_n_n_1_2_161 from List.mem_singleton.mpr rfl)]
    have hsi : GatherDims.siIdx gather_S16x192_S8192x8192x1_S16x8192x8192_0_1_n_n_1_2_161 (ix3 h p k)
        ⟨List.idxOf (1 : Fin 2) (GatherDims.startIndexMap gather_S16x192_S8192x8192x1_S16x8192x8192_0_1_n_n_1_2_161),
          List.idxOf_lt_length_iff.2 (List.mem_singleton.mpr rfl)⟩ = ix3 p k 0 := by
      funext b; refine Fin.ext ?_
      match b with
      | ⟨0, _⟩ => rfl
      | ⟨1, _⟩ => rfl
      | ⟨2, _⟩ => rfl
    rw [hsi, hs]
    show min (BitVec.ofNat 32 (tableSlot p.val k.val).val).toInt.toNat (192 - 1) = (tableSlot p.val k.val).val
    exact start_word (tableSlot p.val k.val)

end Reference
end Cert.Attn

end
-- ==== Proof.AttnRefAt.lean ====
/- The attention's reference read at an index. -/
module

public import proofs.«01_k».proof.Proof.Gen.ReferenceIdeal.Run
public import proofs.«01_k».proof.Proof.AttnRef
public import proofs.«01_k».proof.Proof.AttnMath
public import proofs.«01_k».proof.Proof.AttnRefInt
public import Idealize.ShloMosaic.Lib.Pipeline.ValueKit
public import Idealize.ShloMosaic.Lib.Pointwise
public import Idealize.ShloMosaic.Lib.ValueIdxCore

@[expose] public section

set_option maxRecDepth 16384

noncomputable section

open Idealize.ShloMosaic Idealize.ShloMosaic.TcCoe Idealize.SL.Sem

namespace Cert.Attn

section Reference
open Cert.ReferenceIdeal Cert.ReferenceIdeal.Gen

/-- Every row's maximum is its maximum. -/
theorem maxima_at (x : FVec Ideal S4x16x8192x8192 .f32) (b : Fin 4) (h : Fin 16) (p : Fin 8192) :
    maxima x (ix3 b h p) = rowTop fun k => x (ix4 b h p k) := by
  have hr : S4x16x8192x8192.Reduces [3] S4x16x8192 := by decide
  refine (Host.reduce_eq_fold_single _ x _ reducesTo_S4x16x8192x8192_S4x16x8192_d3 hr h_S_ (ix3 b h p)).trans ?_
  refine congrArg₂ (fun (i : EReal) f => (Finset.univ : Finset (Fin 8192)).fold max i f) ?_ ?_
  · rfl
  · funext k
    refine congrArg x ?_
    funext a
    match a with
    | ⟨0, _⟩ => rfl
    | ⟨1, _⟩ => rfl
    | ⟨2, _⟩ => rfl
    | ⟨3, _⟩ => rfl

/-- A row's number spread over the keys. -/
theorem spread_at (y : FVec Ideal S4x16x8192 .f32) (b : Fin 4) (h : Fin 16) (p k : Fin 8192) :
    (broadcastInDim S4x16x8192x8192 ![0, 1, 2, 3] bcast_S4x16x8192x1_S4x16x8192x8192_0_1_2_3
      (broadcastInDim S4x16x8192x1 ![0, 1, 2] bcast_S4x16x8192_S4x16x8192x1_0_1_2 y) : FVec Ideal S4x16x8192x8192 .f32) (ix4 b h p k)
    = y (ix3 b h p) := by
  pointwise

/-- A maximum with minus infinity. -/
theorem floor_at (y : FVec Ideal S4x16x8192 .f32) (b : Fin 4) (h : Fin 16) (p : Fin 8192) :
    maximumf (broadcastInDim S4x16x8192 ![] bcast_S_S4x16x8192 (constant S_ .f32 0xFF800000#32)) y (ix3 b h p) = y (ix3 b h p) :=
  max_eq_right (bot_le (a := (y (ix3 b h p) : EReal)))

/-- The exponentials of a difference. -/
theorem exp_at (x y : FVec Ideal S4x16x8192x8192 .f32) (i : S4x16x8192x8192.Idx) : Host.exp (subf x y) i = Ideal.exp (x i - y i) := rfl

/-- The weight of a key: the row's exponential. -/
theorem weight_at (x : FVec Ideal S4x16x8192x8192 .f32) (b : Fin 4) (h : Fin 16) (p k : Fin 8192) :
    weight x (ix4 b h p k) = lift (fun k => x (ix4 b h p k)) k := by
  unfold weight lift
  rw [exp_at, spread_at, floor_at, maxima_at]

/-- The masked score of a query and a key. -/
theorem score_at (proj : FVec Ideal S4x8192x14336 .f32) (rel : FVec Ideal S16x192 .f32) (b : Fin 4) (h : Fin 16) (p k : Fin 8192) :
    score proj rel (ix4 b h p k) = if Seen p.val k.val then
      pairScore (fun e => proj (ix3 b p ⟨4096 + (h.val * 128 + e.val), by omega⟩)) (fun e => proj (ix3 b k ⟨6144 + (h.val * 128 + e.val), by omega⟩))
        (rel (ix2 h (tableSlot p.val k.val))) else ⊥ := by
  pointwise [score]
  rw [mask_at, bias_at]
  by_cases hs : Seen p.val k.val
  · rw [if_pos hs, decide_eq_true hs]; rfl
  · rw [if_neg hs, decide_eq_false hs]; rfl

/-- The mean of the values at a query and a lane of a head. -/
theorem attend_at (proj : FVec Ideal S4x8192x14336 .f32) (x : FVec Ideal S4x16x8192x8192 .f32) (b : Fin 4) (h : Fin 16) (e : Fin 128) (p : Fin 8192) :
    attend proj x (ix4 b h e p) = ∑ k : Fin 8192, proj (ix3 b k ⟨8192 + (h.val * 128 + e.val), by omega⟩)
      * Ideal.div (x (ix4 b h p k)) (∑ j : Fin 8192, x (ix4 b h p j)) := by
  pointwise [attend]

/-- The result at an index: the gate times the mean. -/
theorem REF_at (proj : FVec Ideal S4x8192x14336 .f32) (rel : FVec Ideal S16x192 .f32) (b : Fin 4) (p : Fin 8192) (e : Fin 2048) :
    REF proj rel (ix3 b p e) = Ideal.logistic (proj (ix3 b p ⟨12288 + e.val, by omega⟩)) *
      attend proj (weight (score proj rel)) (ix4 b ⟨e.val / 128, by omega⟩ ⟨e.val % 128, by omega⟩ p) := by
  pointwise [REF, gate]
  rfl

/-- The result at a head's lane: the gate times the softmax mean of the values over all the keys. -/
theorem ref_at (proj : FVec Ideal S4x8192x14336 .f32) (rel : FVec Ideal S16x192 .f32) (b : Fin 4) (p : Fin 8192) (h : Fin 16) (e : Fin 128) :
    REF proj rel (ix3 b p ⟨h.val * 128 + e.val, by omega⟩) = Ideal.logistic (proj (ix3 b p ⟨12288 + (h.val * 128 + e.val), by omega⟩)) *
      softmax (keyRow (fun e => proj (ix3 b p ⟨4096 + (h.val * 128 + e.val), by omega⟩))
          (fun k e => proj (ix3 b k ⟨6144 + (h.val * 128 + e.val), by omega⟩)) (fun s => rel (ix2 h s)) p.val)
        (fun k => proj (ix3 b k ⟨8192 + (h.val * 128 + e.val), by omega⟩)) := by
  have hh : (⟨(h.val * 128 + e.val) / 128, by omega⟩ : Fin 16) = h := Fin.ext (by simp only; omega)
  have he : (⟨(h.val * 128 + e.val) % 128, by omega⟩ : Fin 128) = e := Fin.ext (by simp only; omega)
  have hx : (fun k => score proj rel (ix4 b h p k)) = keyRow (fun e => proj (ix3 b p ⟨4096 + (h.val * 128 + e.val), by omega⟩))
          (fun k e => proj (ix3 b k ⟨6144 + (h.val * 128 + e.val), by omega⟩)) (fun s => rel (ix2 h s)) p.val :=
    funext fun k => score_at proj rel b h p k
  have hw : ∀ k : Fin 8192, weight (score proj rel) (ix4 b h p k) = lift (keyRow (fun e => proj (ix3 b p ⟨4096 + (h.val * 128 + e.val), by omega⟩))
          (fun k e => proj (ix3 b k ⟨6144 + (h.val * 128 + e.val), by omega⟩)) (fun s => rel (ix2 h s)) p.val) k := fun k => by
    rw [weight_at, hx]
  rw [REF_at]
  dsimp only
  rw [hh, he, attend_at]
  unfold softmax
  simp only [hw]

end Reference
end Cert.Attn

end
-- ==== Proof.AttnFinal.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pointwise
public import Idealize.ShloMosaic.Lib.Claim
public import proofs.«01_k».proof.Proof.AttnTilesAt
public import proofs.«01_k».proof.Proof.AttnRefAt

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The scale is a number. -/
theorem scale_number : ∃ s : ℝ, scale = (s : EReal) := by
  refine ⟨scale.toReal, (EReal.coe_toReal ?_ ?_).symm⟩
  · simp only [scale, Ideal.ofBits, Ideal.ieee]
    rw [if_neg (by decide)]
    split <;> exact EReal.coe_ne_top _
  · simp only [scale, Ideal.ofBits, Ideal.ieee]
    rw [if_neg (by decide)]
    split <;> exact EReal.coe_ne_bot _

/-- A sum of numbers is a number. -/
theorem sum_number {n : ℕ} (f : Fin n → EReal) (h : ∀ k, ∃ a : ℝ, f k = (a : EReal)) : ∃ a : ℝ, ∑ k, f k = (a : EReal) := by
  choose g hg using h
  refine ⟨∑ k, g k, ?_⟩
  rw [Finset.sum_congr rfl fun k _ => hg k]
  induction (Finset.univ : Finset (Fin n)) using Finset.cons_induction with
  | empty => rfl
  | cons a s _ ih => rw [Finset.sum_cons, Finset.sum_cons, ih, EReal.coe_add]

/-- The score of finite queries, keys and bias is a number. -/
theorem pairScore_number (q k : Fin 128 → EReal) (r : EReal) (hq : ∀ e, ∃ a : ℝ, q e = (a : EReal)) (hk : ∀ e, ∃ a : ℝ, k e = (a : EReal))
    (hr : ∃ a : ℝ, r = (a : EReal)) : ∃ a : ℝ, pairScore q k r = (a : EReal) := by
  obtain ⟨s, hs⟩ := scale_number
  obtain ⟨b, hb⟩ := hr
  obtain ⟨a, ha⟩ := sum_number (fun e => q e * k e) fun e => by
    obtain ⟨x, hx⟩ := hq e
    obtain ⟨y, hy⟩ := hk e
    exact ⟨x * y, by rw [hx, hy, EReal.coe_mul]⟩
  exact ⟨a * s + b, by rw [pairScore, ha, hs, hb, EReal.coe_add, EReal.coe_mul]⟩

/-- The softmax over the band of 640 keys, divided late, is the softmax over all the keys a query sees. -/
theorem band_softmax (q : Fin 128 → EReal) (k : Fin 8192 → Fin 128 → EReal) (v : Fin 8192 → EReal) (table : Vec Ideal S16x192 .f32) (h : Fin 16)
    (p : ℕ) (hp : p + 128 ≤ 8192) (hp' : p % 128 = 0) (r : Fin 128) (K : Fin 640 → Fin 128 → EReal) (W : Fin 640 → EReal)
    (hK : ∀ (c : Fin 640) (hc : 512 ≤ p + c.val), K c = k ⟨p + c.val - 512, by omega⟩)
    (hW : ∀ (c : Fin 640) (hc : 512 ≤ p + c.val), W c = v ⟨p + c.val - 512, by omega⟩)
    (hq : ∀ e, ∃ a : ℝ, q e = (a : EReal)) (hk : ∀ j e, ∃ a : ℝ, k j e = (a : EReal)) (ht : ∀ s, ∃ a : ℝ, (table (ix2 h s) : EReal) = (a : EReal)) :
    softmaxLate (fun c : Fin 640 => if 512 ≤ p + c.val then pairScore q (K c) (bandBias table h r c) else ⊥) W
      = softmax (keyRow q k (fun s => table (ix2 h s)) (p + r.val)) v := by
  have hr := r.isLt
  have seen : Seen (p + r.val) (p + r.val) := by unfold Seen; omega
  refine softmax_band _ _ _ _ p hp ?_ ?_ ?_ hW ?_ ⟨p + r.val, by omega⟩ ?_
  · intro j hj
    unfold keyRow
    rw [if_neg]
    unfold Seen
    omega
  · intro c hc
    exact if_neg (by omega)
  · intro c hc
    have hcl := c.isLt
    show (if 512 ≤ p + c.val then pairScore q (K c) (bandBias table h r c) else ⊥) = _
    rw [if_pos hc, hK c hc]
    unfold keyRow bandBias
    by_cases hv : r.val / 64 ≤ c.val / 64 ∧ c.val / 64 ≤ r.val / 64 + 8
    · have hs : Seen (p + r.val) (p + c.val - 512) := by unfold Seen; omega
      rw [if_pos hv, if_pos hs]
      refine congrArg (fun s => pairScore q (k _) (table (ix2 h s))) (Fin.ext ?_)
      show min 191 (r.val + 512 + 63 - c.val) = min 191 (p + r.val + 63 - (p + c.val - 512))
      omega
    · have hs : ¬Seen (p + r.val) (p + c.val - 512) := by unfold Seen; omega
      rw [if_neg hv, if_neg hs]
      exact EReal.add_bot _
  · intro j
    unfold keyRow
    split
    · obtain ⟨a, ha⟩ := pairScore_number q (k j) (table (ix2 h (tableSlot (p + r.val) j.val))) hq (hk j) (ht _)
      rw [ha]
      exact EReal.coe_ne_top a
    · exact bot_ne_top
  · unfold keyRow
    rw [if_pos seen]
    obtain ⟨a, ha⟩ := pairScore_number q (k ⟨p + r.val, by omega⟩) (table (ix2 h (tableSlot (p + r.val) (p + r.val)))) hq (hk _) (ht _)
    rw [ha]
    exact EReal.coe_ne_bot a

/-- The block of the output every point writes. -/
theorem out_eq (c : Dev nD) (t : Fin cfg0.N) :
    (outsAt0 m c t.val t.isLt).1 = tiles (BitVec.ofNat 32 (grid0.coords t 2)) (iblk m c 1 t) (outsAt0 m c t.val t.isLt).2.2.1
      (outsAt0 m c t.val t.isLt).2.2.2 (outsAt0 m c t.val t.isLt).2.1 (iblk m c 4 t) := by
  by_cases h1 : t.val % 16 = 0
  · by_cases h0 : t.val % 64 = 0
    · exact out_A m c t h0 h1 (by omega)
    · exact out_C m c t h0 h1 (by omega)
  · exact out_B m c t (by omega) h1 (by omega)

/-- The block of rows of a grid point. -/
theorem block_val (t : Fin cfg0.N) : (grid0.coords t 2).val = t.val % 16 := by
  refine (Pipeline.Grid.coords_val t 2 (S := 1) (B := 16) (by decide) rfl).trans ?_
  omega

/-- The attention kernel's output array is the reference's, where the queries, the keys and the table are finite. -/
theorem final (c : Dev nD)
    (hproj : ∀ (b : Fin 4) (p : Fin 8192) (j : Fin 4096), ∃ a : ℝ,
      ((m ((c : Thread nD τ).loc main_arg0) : FVec Ideal S4x8192x14336 .f32) (ix3 b p ⟨4096 + j.val, by omega⟩) : EReal) = (a : EReal))
    (htable : ∀ (h : Fin 16) (s : Fin 192), ∃ a : ℝ, ((m ((c : Thread nD τ).loc main_arg1) : FVec Ideal S16x192 .f32) (ix2 h s) : EReal) = (a : EReal)) :
    (dats m 0 c).arrAt 5 cfg0.N = REF (m ((c : Thread nD τ).loc main_arg0)) (m ((c : Thread nD τ).loc main_arg1)) := by
  refine (dats m 0 c).arrAt_eq_of_covers 5 _ (by decide +kernel) fun t hf y => ?_
  blk_simp
  rw [after0_5, out_eq]
  have ht : t.val < 256 := lt_of_lt_of_eq t.isLt N_0
  obtain ⟨z, row, col, rfl⟩ : ∃ (z : Fin 1) (row : Fin 512) (col : Fin 512), y = ix3 z row col := ⟨y 0, y 1, y 2, eq_ix3 y⟩
  obtain rfl : z = 0 := Subsingleton.elim _ _
  obtain ⟨s, r, rfl⟩ : ∃ (s : Fin 4) (r : Fin 128), row = ⟨128 * s.val + r.val, by omega⟩ :=
    ⟨⟨row.val / 128, by omega⟩, ⟨row.val % 128, by omega⟩, Fin.ext (by show row.val = 128 * (row.val / 128) + row.val % 128; omega)⟩
  obtain ⟨h, e, rfl⟩ : ∃ (h : Fin 4) (e : Fin 128), col = ⟨128 * h.val + e.val, by omega⟩ :=
    ⟨⟨col.val / 128, by omega⟩, ⟨col.val % 128, by omega⟩, Fin.ext (by show col.val = 128 * (col.val / 128) + col.val % 128; omega)⟩
  have hp : ((win0_5.blk t).view.emb (ix3 0 ⟨128 * s.val + r.val, by omega⟩ ⟨128 * h.val + e.val, by omega⟩) : S4x8192x2048.Idx)
      = ix3 (⟨t.val / 16 % 4, by omega⟩ : Fin 4) (⟨512 * (t.val % 16) + 128 * s.val + r.val, by omega⟩ : Fin 8192)
          (⟨(4 * (t.val / 64) + h.val) * 128 + e.val, by omega⟩ : Fin 2048) := by
    blk_ext [idx t]
  rw [hp]
  refine Eq.trans ?_ (ref_at _ _ ⟨t.val / 16 % 4, by omega⟩ ⟨512 * (t.val % 16) + 128 * s.val + r.val, by omega⟩
    ⟨4 * (t.val / 64) + h.val, by omega⟩ e).symm
  rw [block_val t]
  refine (tiles_at ⟨t.val % 16, by omega⟩ _ _ _ _ _ s h r e).trans ?_
  refine (mul_comm _ _).trans (congrArg₂ (fun a b => Ideal.logistic a * b) ?_ ?_)
  · blk_ext [iblk, V, idx t]
  · have hQ : (fun e : Fin 128 => (iblk m c 1 t : FVec Ideal S1x512x512 .f32) (ix3 0 ⟨128 * s.val + r.val, by omega⟩ ⟨128 * h.val + e.val, by omega⟩))
        = fun e : Fin 128 => (m ((c : Thread nD τ).loc main_arg0) : FVec Ideal S4x8192x14336 .f32) (ix3 (⟨t.val / 16 % 4, by omega⟩ : Fin 4)
          (⟨512 * (t.val % 16) + 128 * s.val + r.val, by omega⟩ : Fin 8192)
          ⟨4096 + ((4 * (t.val / 64) + h.val) * 128 + e.val), by omega⟩) := by
      funext e
      blk_ext [iblk, V, idx t]
    have hB : (fun c' : Fin 640 => ((outsAt0 m c t.val t.isLt).2.1 (ix3 h r c') : EReal))
        = fun c' => bandBias (m ((c : Thread nD τ).loc main_arg1)) ⟨4 * (t.val / 64) + h.val, by omega⟩ r c' := by
      funext c'
      exact bias_at m c t.val t.isLt ht h r c'
    refine Eq.trans ?_ (band_softmax _ _ _ (m ((c : Thread nD τ).loc main_arg1)) ⟨4 * (t.val / 64) + h.val, by omega⟩
      (512 * (t.val % 16) + 128 * s.val) (by omega) (by omega) r
      (fun c' e => (outsAt0 m c t.val t.isLt).2.2.1 (ix2 ⟨128 * s.val + c'.val, by omega⟩ ⟨128 * h.val + e.val, by omega⟩))
      (fun c' => (outsAt0 m c t.val t.isLt).2.2.2 (ix2 ⟨128 * s.val + c'.val, by omega⟩ ⟨128 * h.val + e.val, by omega⟩))
      ?_ ?_ ?_ ?_ ?_)
    · rw [← hQ]
      refine congrArg (fun x => softmaxLate x _) (funext fun c' => ?_)
      rw [← congrFun hB c']
    · intro c' hc
      funext e
      refine (keys_at m c t ht ⟨128 * s.val + c'.val, by omega⟩ (by dsimp only; omega) ⟨128 * h.val + e.val, by omega⟩).trans ?_
      refine congrArg (m ((c : Thread nD τ).loc main_arg0)) (congrArg₂ (ix3 (⟨t.val / 16 % 4, by omega⟩ : Fin 4)) (Fin.ext ?_) (Fin.ext ?_))
      · dsimp only; omega
      · dsimp only; omega
    · intro c' hc
      refine (values_at m c t ht ⟨128 * s.val + c'.val, by omega⟩ (by dsimp only; omega) ⟨128 * h.val + e.val, by omega⟩).trans ?_
      refine congrArg (m ((c : Thread nD τ).loc main_arg0)) (congrArg₂ (ix3 (⟨t.val / 16 % 4, by omega⟩ : Fin 4)) (Fin.ext ?_) (Fin.ext ?_))
      · dsimp only; omega
      · dsimp only; omega
    · exact fun e => hproj _ _ ⟨(4 * (t.val / 64) + h.val) * 128 + e.val, by omega⟩
    · intro j e
      obtain ⟨a, ha⟩ := hproj ⟨t.val / 16 % 4, by omega⟩ j ⟨2048 + ((4 * (t.val / 64) + h.val) * 128 + e.val), by omega⟩
      refine ⟨a, Eq.trans (congrArg (m ((c : Thread nD τ).loc main_arg0)) (congrArg (ix3 (⟨t.val / 16 % 4, by omega⟩ : Fin 4) j) (Fin.ext ?_))) ha⟩
      dsimp only; omega
    · exact fun s => htable _ s

end Cert.KernelIdeal.Value

end
-- ==== Proof.AttnCalls.lean ====
/- The value claim of the attention: the precondition read as numbers, and the two runs side by side. -/
module

public import proofs.«01_k».proof.Defs
public import proofs.«01_k».proof.Proof.AttnFinal
public import proofs.«01_k».proof.Proof.Gen.KernelIdeal
public import proofs.«01_k».proof.Proof.Gen.ReferenceIdeal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The shape relations the precondition's operations take. -/
theorem finite_facts : Cert.Pre_finite.Facts where
  slices_S4x8192x14336_S4x8192x4096_0_0_4096 := by decide
  bcast_S_S4x8192x4096 := by decide
  bcast_S_S16x192 := by decide

/-- A value whose magnitude compares below plus infinity is a number. -/
theorem number_of_lt (x : EReal) (h : Ideal.cmp .olt (max x (-x)) (Ideal.ofBits .f32 0x7F800000#32) = 1#1) : ∃ a : ℝ, x = (a : EReal) := by
  have top : Ideal.ofBits .f32 0x7F800000#32 = ⊤ := by simp [Ideal.ofBits, Ideal.ieee]
  rw [top] at h
  induction x using EReal.rec with
  | bot => simp [Ideal.cmp] at h
  | coe a => exact ⟨a, rfl⟩
  | top => simp [Ideal.cmp] at h

/-- Under the precondition the queries and the keys are numbers. -/
theorem proj_numbers (x : FVec Ideal Cert.Pre_finite.S4x8192x14336 .f32) (y : FVec Ideal Cert.Pre_finite.S16x192 .f32)
    (h : (@Cert.Pre_finite.fn finite_facts Ideal _ x y).1 = fun _ => 1#1) (b : Fin 4) (p : Fin 8192) (j : Fin 4096) :
    ∃ a : ℝ, (x (ix3 b p ⟨4096 + j.val, by omega⟩) : EReal) = (a : EReal) := by
  refine number_of_lt _ (Eq.trans ?_ (congrFun h (ix3 b p j)))
  have e : x (ix3 b p ⟨4096 + j.val, by omega⟩) = extractStridedSlice Cert.Pre_finite.S4x8192x4096 ![0, 0, 4096] x finite_facts.1 (ix3 b p j) := by
    refine congrArg x (funext fun a => ?_)
    match a with
    | ⟨0, _⟩ => exact Fin.ext (Nat.zero_add _).symm
    | ⟨1, _⟩ => exact Fin.ext (Nat.zero_add _).symm
    | ⟨2, _⟩ => rfl
  rw [e]
  rfl

/-- Under the precondition the table of the bias is of numbers. -/
theorem table_numbers (x : FVec Ideal Cert.Pre_finite.S4x8192x14336 .f32) (y : FVec Ideal Cert.Pre_finite.S16x192 .f32)
    (h : (@Cert.Pre_finite.fn finite_facts Ideal _ x y).2 = fun _ => 1#1) (i : Fin 16) (s : Fin 192) :
    ∃ a : ℝ, (y (ix2 i s) : EReal) = (a : EReal) :=
  number_of_lt _ (congrFun h (ix2 i s))

set_option maxHeartbeats 1600000 in
/-- The attention kernel leaves the reference's attention, where the queries, the keys and the bias are finite. -/
theorem attn_algebraic : Cert.algebraic_KernelIdeal_ReferenceIdeal_pre_finite (hKernelIdeal := Cert.KernelIdeal.Gen.facts)
    (hReferenceIdeal := Cert.ReferenceIdeal.Gen.facts) (hPre_finite := finite_facts) := by
  pair_intro
  · run_from Cert.KernelIdeal.Gen.run_main m g
  · run_from Cert.ReferenceIdeal.Value.run m' g'
    obtain ⟨h0, h1⟩ := hagree c
    rw [Cert.Attn.ref_eq, h0, h1]
    exact (Cert.KernelIdeal.Value.final m c (proj_numbers _ _ (hpre c).1) (table_numbers _ _ (hpre c).2)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.Kernel2Ideal.Run
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel5Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Run
public import proofs.«01_k».proof.Proof.Calls
public import proofs.«01_k».proof.Proof.PeerCall
public import proofs.«01_k».proof.Proof.SamplePeerCall
public import proofs.«01_k».proof.Proof.AttnCalls
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The mask's printed number, named, reads minus infinity in the idealized kernel. -/
theorem attn_preserves : Cert.preserves_Kernel_KernelIdeal :=
  IdealRules.named_const.statement Cert.KernelIdeal.κ "mask" .f32 0xF149F2CA#32 ⊥ rfl

/-- The attention's reference runs, leaves its arguments and, having no semaphore, ends with every counter at zero. -/
theorem attn_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The projection's reference runs, leaves its arguments and, having no semaphore, ends with every counter at zero. -/
theorem proj_reference : Cert.quiescent_Reference2Ideal (hReference2Ideal := Cert.Reference2Ideal.Gen.facts) := fun m g _ =>
  (θ_run Cert.Reference2Ideal.defs _ _).mono (fun r h => ⟨fun c => (h c).2.2.2, sem_eq_zero_of_no_sems (by decide) r.2⟩)
    (Cert.Reference2Ideal.Value.run (F := Ideal) m g)

/-- The mixing call's reference runs, leaves its arguments and, having no semaphore, ends with every counter at zero. -/
theorem mix_reference : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run (F := Ideal) m g)

/-- The sample projection's reference runs, leaves its arguments and, having no semaphore, ends with every counter at zero. -/
theorem sample_reference : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

/-- The peer call's reference runs, leaves its arguments and, having no semaphore, ends with every counter at zero. -/
theorem peer_reference : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- The reference of the experts on the sample runs, leaves its arguments and, having no semaphore, ends with every counter at zero. -/
theorem sample_peer_reference : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    finite_facts,
    fun m ρ _ => Cert.Kernel.Gen.frame m ρ, fun m ρ _ => Cert.KernelIdeal.Gen.frame m ρ, fun m ρ _ => Cert.KernelIdeal.Gen.frame m ρ,
    attn_reference, fun m g _ => attn_reference m g trivial,
    fun m ρ _ => Cert.Kernel2.Gen.frame m ρ, fun m ρ _ => Cert.Kernel2Ideal.Gen.frame m ρ, proj_reference,
    fun m ρ _ => Cert.Kernel3.Gen.frame m ρ, fun m ρ _ => Cert.Kernel3Ideal.Gen.frame m ρ, mix_reference,
    fun m ρ _ => Cert.Kernel4.Gen.frame m ρ, fun m ρ _ => Cert.Kernel4Ideal.Gen.frame m ρ, sample_reference,
    fun m ρ _ => Cert.Kernel5.Gen.frame m ρ, fun m ρ _ => Cert.Kernel5Ideal.Gen.frame m ρ, peer_reference,
    fun m ρ _ => Cert.Kernel6.Gen.frame m ρ, fun m ρ _ => Cert.Kernel6Ideal.Gen.frame m ρ, sample_peer_reference,
    attn_preserves, attn_algebraic, trivial, proj_algebraic, trivial, mix_algebraic, trivial, sample_algebraic, trivial, peer_algebraic,
    trivial, sample_peer_algebraic⟩

end Cert.Proof

end
